-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale" .f32 0x3DA1E89B#32 (((Real.sqrt 160)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 128]⟩ ⟨2, ![2048, 256]⟩ (Layout.meshBlock [2, 2, 2] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![128, 2048]⟩ ⟨2, ![256, 2048]⟩ (Layout.meshBlock [2, 2, 2] ![[0], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![128, 2048]⟩ ⟨2, ![256, 2048]⟩ (Layout.meshBlock [2, 2, 2] ![[0], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v30) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S2x512x2048 : S_.BroadcastsInDim S2x512x2048 (![] : Fin 0 → Fin S2x512x2048.rank)
  bcast_S_S2048x128 : S_.BroadcastsInDim S2048x128 (![] : Fin 0 → Fin S2048x128.rank)
  bcast_S_S128x2048 : S_.BroadcastsInDim S128x2048 (![] : Fin 0 → Fin S128x2048.rank)
  bcast_S_S2048x2048 : S_.BroadcastsInDim S2048x2048 (![] : Fin 0 → Fin S2048x2048.rank)
  bcast_S_S2048x512 : S_.BroadcastsInDim S2048x512 (![] : Fin 0 → Fin S2048x512.rank)
  bcast_S_S2048x32 : S_.BroadcastsInDim S2048x32 (![] : Fin 0 → Fin S2048x32.rank)

variable [Facts]

def fn {F : FTy → Type} [FloatOps F] (main_arg0 : FVec F S2x512x2048 .f32) (main_arg1 : FVec F S2048x128 .f32) (main_arg2 : FVec F S128x2048 .f32) (main_arg3 : FVec F S128x2048 .f32) (main_arg4 : FVec F S2048x2048 .f32) (main_arg5 : FVec F S2048x512 .f32) (main_arg6 : FVec F S2048x32 .f32) (main_arg7 : FVec F S2048x2048 .f32) : IVec S2x512x2048 1 × IVec S2048x128 1 × IVec S128x2048 1 × IVec S2048x2048 1 × IVec S2048x512 1 × IVec S2048x32 1 :=
  let main_v0 : FVec F S2x512x2048 .f32 := Host.absf main_arg0
  let main_cst : FVec F S_ .f32 := constant S_ .f32 0x7F800000#32
  let main_v1 : FVec F S2x512x2048 .f32 := broadcastInDim S2x512x2048 ![] bcast_S_S2x512x2048 main_cst
  let main_v2 : IVec S2x512x2048 1 := cmpf .olt main_v0 main_v1
  let main_v3 : FVec F S2048x128 .f32 := Host.absf main_arg1
  let main_cst_0 : FVec F S_ .f32 := constant S_ .f32 0x7F800000#32
  let main_v4 : FVec F S2048x128 .f32 := broadcastInDim S2048x128 ![] bcast_S_S2048x128 main_cst_0
  let main_v5 : IVec S2048x128 1 := cmpf .olt main_v3 main_v4
  let main_v6 : FVec F S128x2048 .f32 := Host.absf main_arg2
  let main_cst_1 : FVec F S_ .f32 := constant S_ .f32 0x7F800000#32
  let main_v7 : FVec F S128x2048 .f32 := broadcastInDim S128x2048 ![] bcast_S_S128x2048 main_cst_1
  let main_v8 : IVec S128x2048 1 := cmpf .olt main_v6 main_v7
  let main_v9 : FVec F S2048x2048 .f32 := Host.absf main_arg4
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_v12 : FVec F S2048x512 .f32 := Host.absf main_arg5
  let main_cst_3 : FVec F S_ .f32 := constant S_ .f32 0x7F800000#32
  let main_v13 : FVec F S2048x512 .f32 := broadcastInDim S2048x512 ![] bcast_S_S2048x512 main_cst_3
  let main_v14 : IVec S2048x512 1 := cmpf .olt main_v12 main_v13
  let main_v15 : FVec F S2048x32 .f32 := Host.absf main_arg6
  let main_cst_4 : FVec F S_ .f32 := constant S_ .f32 0x7F800000#32
  let main_v16 : FVec F S2048x32 .f32 := broadcastInDim S2048x32 ![] bcast_S_S2048x32 main_cst_4
  let main_v17 : IVec S2048x32 1 := cmpf .olt main_v15 main_v16
  (main_v2, main_v5, main_v8, main_v11, main_v14, main_v17)
-- ==== Pre_finite_ReferenceIdeal.lean ====
abbrev S2x512x2048 : Shape := ⟨3, ![2, 512, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S_ : Shape := ⟨0, ![]⟩

class Facts : Prop where
  bcast_S_S2x512x2048 : S_.BroadcastsInDim S2x512x2048 (![] : Fin 0 → Fin S2x512x2048.rank)
  bcast_S_S2048x256 : S_.BroadcastsInDim S2048x256 (![] : Fin 0 → Fin S2048x256.rank)
  bcast_S_S256x2048 : S_.BroadcastsInDim S256x2048 (![] : Fin 0 → Fin S256x2048.rank)
  bcast_S_S2048x2048 : S_.BroadcastsInDim S2048x2048 (![] : Fin 0 → Fin S2048x2048.rank)
  bcast_S_S2048x512 : S_.BroadcastsInDim S2048x512 (![] : Fin 0 → Fin S2048x512.rank)
  bcast_S_S2048x32 : S_.BroadcastsInDim S2048x32 (![] : Fin 0 → Fin S2048x32.rank)

variable [Facts]

def fn {F : FTy → Type} [FloatOps F] (main_arg0 : FVec F S2x512x2048 .f32) (main_arg1 : FVec F S2048x256 .f32) (main_arg2 : FVec F S256x2048 .f32) (main_arg3 : FVec F S256x2048 .f32) (main_arg4 : FVec F S2048x2048 .f32) (main_arg5 : FVec F S2048x512 .f32) (main_arg6 : FVec F S2048x32 .f32) (main_arg7 : FVec F S2048x2048 .f32) : IVec S2x512x2048 1 × IVec S2048x256 1 × IVec S256x2048 1 × IVec S2048x2048 1 × IVec S2048x512 1 × IVec S2048x32 1 :=
  let main_v0 : FVec F S2x512x2048 .f32 := Host.absf main_arg0
  let main_cst : FVec F S_ .f32 := constant S_ .f32 0x7F800000#32
  let main_v1 : FVec F S2x512x2048 .f32 := broadcastInDim S2x512x2048 ![] bcast_S_S2x512x2048 main_cst
  let main_v2 : IVec S2x512x2048 1 := cmpf .olt main_v0 main_v1
  let main_v3 : FVec F S2048x256 .f32 := Host.absf main_arg1
  let main_cst_0 : FVec F S_ .f32 := constant S_ .f32 0x7F800000#32
  let main_v4 : FVec F S2048x256 .f32 := broadcastInDim S2048x256 ![] bcast_S_S2048x256 main_cst_0
  let main_v5 : IVec S2048x256 1 := cmpf .olt main_v3 main_v4
  let main_v6 : FVec F S256x2048 .f32 := Host.absf main_arg2
  let main_cst_1 : FVec F S_ .f32 := constant S_ .f32 0x7F800000#32
  let main_v7 : FVec F S256x2048 .f32 := broadcastInDim S256x2048 ![] bcast_S_S256x2048 main_cst_1
  let main_v8 : IVec S256x2048 1 := cmpf .olt main_v6 main_v7
  let main_v9 : FVec F S2048x2048 .f32 := Host.absf main_arg4
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_v12 : FVec F S2048x512 .f32 := Host.absf main_arg5
  let main_cst_3 : FVec F S_ .f32 := constant S_ .f32 0x7F800000#32
  let main_v13 : FVec F S2048x512 .f32 := broadcastInDim S2048x512 ![] bcast_S_S2048x512 main_cst_3
  let main_v14 : IVec S2048x512 1 := cmpf .olt main_v12 main_v13
  let main_v15 : FVec F S2048x32 .f32 := Host.absf main_arg6
  let main_cst_4 : FVec F S_ .f32 := constant S_ .f32 0x7F800000#32
  let main_v16 : FVec F S2048x32 .f32 := broadcastInDim S2048x32 ![] bcast_S_S2048x32 main_cst_4
  let main_v17 : IVec S2048x32 1 := cmpf .olt main_v15 main_v16
  (main_v2, main_v5, main_v8, main_v11, main_v14, main_v17)
-- ==== Kernel.lean ====
abbrev S2x512x2048 : Shape := ⟨3, ![2, 512, 2048]⟩
abbrev S2048x128 : Shape := ⟨2, ![2048, 128]⟩
abbrev S128x2048 : Shape := ⟨2, ![128, 2048]⟩
abbrev S2048x2048 : Shape := ⟨2, ![2048, 2048]⟩
abbrev S2048x512 : Shape := ⟨2, ![2048, 512]⟩
abbrev S2048x32 : Shape := ⟨2, ![2048, 32]⟩
abbrev S1024x2048 : Shape := ⟨2, ![1024, 2048]⟩
abbrev S1024x128 : Shape := ⟨2, ![1024, 128]⟩
abbrev S2x128x2048 : Shape := ⟨3, ![2, 128, 2048]⟩
abbrev S16x1024x32 : Shape := ⟨3, ![16, 1024, 32]⟩
abbrev S1024x32 : Shape := ⟨2, ![1024, 32]⟩
abbrev S2x2048x256 : Shape := ⟨3, ![2, 2048, 256]⟩
abbrev S2 : Shape := ⟨1, ![2]⟩
abbrev S1 : Shape := ⟨1, ![1]⟩
abbrev S_ : Shape := ⟨0, ![]⟩
abbrev S1x2048x256 : Shape := ⟨3, ![1, 2048, 256]⟩
abbrev S2048x256 : Shape := ⟨2, ![2048, 256]⟩
abbrev S1x128x2048 : Shape := ⟨3, ![1, 128, 2048]⟩
abbrev S1x512x2048 : Shape := ⟨3, ![1, 512, 2048]⟩
abbrev S512x2048 : Shape := ⟨2, ![512, 2048]⟩
abbrev S512x128 : Shape := ⟨2, ![512, 128]⟩
abbrev S512x256 : Shape := ⟨2, ![512, 256]⟩
abbrev S512x512 : Shape := ⟨2, ![512, 512]⟩
abbrev S512x32 : Shape := ⟨2, ![512, 32]⟩
abbrev S1x512x32 : Shape := ⟨3, ![1, 512, 32]⟩
abbrev S1x128x512 : Shape := ⟨3, ![1, 128, 512]⟩
abbrev S128x512 : Shape := ⟨2, ![128, 512]⟩
abbrev S512 : Shape := ⟨1, ![512]⟩
abbrev S512x1 : Shape := ⟨2, ![512, 1]⟩
abbrev S128x1024 : Shape := ⟨2, ![128, 1024]⟩
abbrev S512x1024 : Shape := ⟨2, ![512, 1024]⟩
abbrev S1x512x1024 : Shape := ⟨3, ![1, 512, 1024]⟩

abbrev nBuf : Space → Nat
  | .hbm => 9
  | .vmem => 19
  | .smem => 0
  | _ => 0

abbrev bufTy : (tb : Table) → Fin (tcTables nBuf tb) → BufTy
  | .hbm, ⟨0, _⟩ => ⟨S2x512x2048, .f32⟩
  | .hbm, ⟨1, _⟩ => ⟨S2048x128, .f32⟩
  | .hbm, ⟨2, _⟩ => ⟨S128x2048, .f32⟩
  | .hbm, ⟨3, _⟩ => ⟨S128x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S2x512x2048, .f32⟩
  | .local _ .vmem, ⟨0, _⟩ => ⟨S2x512x2048, .f32⟩
  | .local _ .vmem, ⟨1, _⟩ => ⟨S2048x128, .f32⟩
  | .local _ .vmem, ⟨2, _⟩ => ⟨S128x2048, .f32⟩
  | .local _ .vmem, ⟨3, _⟩ => ⟨S128x2048, .f32⟩
  | .local _ .vmem, ⟨4, _⟩ => ⟨S2048x512, .f32⟩
  | .local _ .vmem, ⟨5, _⟩ => ⟨S2048x32, .f32⟩
  | .local _ .vmem, ⟨6, _⟩ => ⟨S2x512x2048, .f32⟩
  | .local _ .vmem, ⟨7, _⟩ => ⟨S1024x2048, .bf16⟩
  | .local _ .vmem, ⟨8, _⟩ => ⟨S1024x128, .bf16⟩
  | .local _ .vmem, ⟨9, _⟩ => ⟨S1024x128, .bf16⟩
  | .local _ .vmem, ⟨10, _⟩ => ⟨S2x128x2048, .bf16⟩
  | .local _ .vmem, ⟨11, _⟩ => ⟨S2x128x2048, .bf16⟩
  | .local _ .vmem, ⟨12, _⟩ => ⟨S1024x2048, .bf16⟩
  | .local _ .vmem, ⟨13, _⟩ => ⟨S16x1024x32, .bf16⟩
  | .local _ .vmem, ⟨14, _⟩ => ⟨S1024x32, .bf16⟩
  | .local _ .vmem, ⟨15, _⟩ => ⟨S1024x2048, .bf16⟩
  | .local _ .vmem, ⟨16, _⟩ => ⟨S1024x2048, .bf16⟩
  | .local _ .vmem, ⟨17, _⟩ => ⟨S2x2048x256, .f32⟩
  | .local _ .vmem, ⟨18, _⟩ => ⟨S2x128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_scratch9 : Ref sig .tc := ⟨.vmem, 16, rfl⟩
abbrev cc0_scratch10 : Ref sig .tc := ⟨.vmem, 17, rfl⟩
abbrev cc0_scratch11 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_11 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_10 : BitVec 32 := 4#32
  let v16 : BitVec 32 := Scalar.muli v9 c4_i32_10
  let v17 : BitVec 32 := Scalar.addi c0_i32_11 v16
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_12 : BitVec 32 := 2#32
  let v18 : BitVec 32 := Scalar.muli v5 c2_i32_12
  let v19 : BitVec 32 := Scalar.addi v17 v18
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_13 : BitVec 32 := 1#32
  let v20 : BitVec 32 := Scalar.muli v8 c1_i32_13
  let v21 : BitVec 32 := Scalar.addi v19 v20
  v21.toNat
def k0_dev2 (d0 : Dev nD) : Nat :=
  let c0_i32_26 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_25 : BitVec 32 := 4#32
  let v34 : BitVec 32 := Scalar.muli v9 c4_i32_25
  let v35 : BitVec 32 := Scalar.addi c0_i32_26 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_27 : BitVec 32 := 2#32
  let v36 : BitVec 32 := Scalar.muli v5 c2_i32_27
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_28 : BitVec 32 := 1#32
  let v38 : BitVec 32 := Scalar.muli v8 c1_i32_28
  let v39 : BitVec 32 := Scalar.addi v37 v38
  v39.toNat
def k0_dev3 (d0 : Dev nD) : Nat :=
  let c0_i32_52 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_51 : BitVec 32 := 4#32
  let v71 : BitVec 32 := Scalar.muli v9 c4_i32_51
  let v72 : BitVec 32 := Scalar.addi c0_i32_52 v71
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_53 : BitVec 32 := 2#32
  let v73 : BitVec 32 := Scalar.muli v5 c2_i32_53
  let v74 : BitVec 32 := Scalar.addi v72 v73
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_54 : BitVec 32 := 1#32
  let v75 : BitVec 32 := Scalar.muli v8 c1_i32_54
  let v76 : BitVec 32 := Scalar.addi v74 v75
  v76.toNat
abbrev stage0_0 : Fin 1 → Memref sig .tc .vmem S2x512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 160)⁻¹ : ℝ) : EReal)
  | _ => none
-- ==== ReferenceIdeal.lean ====
abbrev S2x512x2048 : Shape := ⟨3, ![2, 512, 2048]⟩
abbrev S2048x256 : Shape := ⟨2, ![2048, 256]⟩
abbrev S256x2048 : Shape := ⟨2, ![256, 2048]⟩
abbrev S2048x2048 : Shape := ⟨2, ![2048, 2048]⟩
abbrev S2048x512 : Shape := ⟨2, ![2048, 512]⟩
abbrev S2048x32 : Shape := ⟨2, ![2048, 32]⟩
abbrev S2x512x256 : Shape := ⟨3, ![2, 512, 256]⟩
abbrev S2x512x16x128 : Shape := ⟨4, ![2, 512, 16, 128]⟩
abbrev S2x512x512 : Shape := ⟨3, ![2, 512, 512]⟩
abbrev S2x512x16x32 : Shape := ⟨4, ![2, 512, 16, 32]⟩
abbrev S2x512x32 : Shape := ⟨3, ![2, 512, 32]⟩
abbrev S2x512x1x32 : Shape := ⟨4, ![2, 512, 1, 32]⟩
abbrev S_ : Shape := ⟨0, ![]⟩
abbrev S2x16x512x512 : Shape := ⟨4, ![2, 16, 512, 512]⟩
abbrev S2x16x512 : Shape := ⟨3, ![2, 16, 512]⟩
abbrev S2x16x512x1 : Shape := ⟨4, ![2, 16, 512, 1]⟩
abbrev S2x16x128x512 : Shape := ⟨4, ![2, 16, 128, 512]⟩

abbrev nBuf : Space → Nat
  | .hbm => 42
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2048x256, .f32⟩
  | .hbm, ⟨2, _⟩ => ⟨S256x2048, .f32⟩
  | .hbm, ⟨3, _⟩ => ⟨S256x2048, .f32⟩
  | .hbm, ⟨4, _⟩ => ⟨S2048x2048, .f32⟩
  | .hbm, ⟨5, _⟩ => ⟨S2048x512, .f32⟩
  | .hbm, ⟨6, _⟩ => ⟨S2048x32, .f32⟩
  | .hbm, ⟨7, _⟩ => ⟨S2048x2048, .f32⟩
  | .hbm, ⟨8, _⟩ => ⟨S2x512x256, .f32⟩
  | .hbm, ⟨9, _⟩ => ⟨S2x512x2048, .f32⟩
  | .hbm, ⟨10, _⟩ => ⟨S2x512x16x128, .f32⟩
  | .hbm, ⟨11, _⟩ => ⟨S2x512x2048, .f32⟩
  | .hbm, ⟨12, _⟩ => ⟨S2x512x16x128, .f32⟩
  | .hbm, ⟨13, _⟩ => ⟨S2x512x2048, .f32⟩
  | .hbm, ⟨14, _⟩ => ⟨S2x512x16x128, .f32⟩
  | .hbm, ⟨15, _⟩ => ⟨S2x512x512, .f32⟩
  | .hbm, ⟨16, _⟩ => ⟨S2x512x16x32, .f32⟩
  | .hbm, ⟨17, _⟩ => ⟨S2x512x32, .f32⟩
  | .hbm, ⟨18, _⟩ => ⟨S2x512x1x32, .f32⟩
  | .hbm, ⟨19, _⟩ => ⟨S_, .f32⟩
  | .hbm, ⟨20, _⟩ => ⟨S_, .f32⟩
  | .hbm, ⟨21, _⟩ => ⟨S2x16x512x512, .f32⟩
  | .hbm, ⟨22, _⟩ => ⟨S2x512x16x32, .f32⟩
  | .hbm, ⟨23, _⟩ => ⟨S2x16x512x512, .f32⟩
  | .hbm, ⟨24, _⟩ => ⟨S2x16x512x512, .f32⟩
  | .hbm, ⟨25, _⟩ => ⟨S2x16x512x512, .f32⟩
  | .hbm, ⟨26, _⟩ => ⟨S2x16x512x512, .f32⟩
  | .hbm, ⟨27, _⟩ => ⟨S_, .f32⟩
  | .hbm, ⟨28, _⟩ => ⟨S2x16x512, .f32⟩
  | .hbm, ⟨29, _⟩ => ⟨S2x16x512x1, .f32⟩
  | .hbm, ⟨30, _⟩ => ⟨S2x16x512x512, .f32⟩
  | .hbm, ⟨31, _⟩ => ⟨S2x16x512x512, .f32⟩
  | .hbm, ⟨32, _⟩ => ⟨S2x16x512x512, .f32⟩
  | .hbm, ⟨33, _⟩ => ⟨S_, .f32⟩
  | .hbm, ⟨34, _⟩ => ⟨S2x16x512, .f32⟩
  | .hbm, ⟨35, _⟩ => ⟨S2x16x512x1, .f32⟩
  | .hbm, ⟨36, _⟩ => ⟨S2x16x512x512, .f32⟩
  | .hbm, ⟨37, _⟩ => ⟨S2x16x512x512, .f32⟩
  | .hbm, ⟨38, _⟩ => ⟨S2x16x128x512, .f32⟩
  | .hbm, ⟨39, _⟩ => ⟨S2x512x16x128, .f32⟩
  | .hbm, ⟨40, _⟩ => ⟨S2x512x2048, .f32⟩
  | .hbm, ⟨41, _⟩ => ⟨S2x512x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== Proof.Lib.Held.lean ====
/- Buffers held at known contents, and the loads, stores and local copies under them.

   A buffer is held at a target `T` on a part `D` of its indices: whatever the buffer holds elsewhere is not said.
   A store extends the part, a load inside the part reads the target. -/
module

public import Idealize.ShloMosaic.Lib.Transfers
public import Idealize.ShloMosaic.Lib.Pipeline.Launch
public import Idealize.ShloMosaic.Lib.Pipeline.Kit
public import Idealize.ShloMosaic.Lib.Tactic

@[expose] public section

noncomputable section

namespace Cert.Held

open Idealize.ShloMosaic Idealize.ShloMosaic.Transfers
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U]

local notation "𝕄" => MT nD τ sig Unit Val ℕ U ℕ

variable {Λ : Labels} {defs : Defs nD τ sig Val Λ} (𝒱 : Variants) (c : Dev nD)
variable {s : Shape} {e : EltTy}

/-- The buffer of `m` on device `c` holds `T` on `D`. -/
def held (m : Memref sig .tc .vmem s e) (T : s.Idx → Val e) (D : s.Idx → Prop) : sProp 𝕄 :=
  iprop(∃ f : Buf Val (m.view.loc (c : Thread nD τ)), ⌜∀ i, D i → m.view.read Val f i = T i⌝ ∗ (m.view.loc (c : Thread nD τ) ↦[m.view.set]{fullShare} f))

/-- Nothing known of a buffer is the target on no index. -/
theorem held_none {m : Memref sig .tc .vmem s e} {T : s.Idx → Val e} {D : s.Idx → Prop} (hD : ∀ i, ¬ D i)
    {f : Buf Val (m.view.loc (c : Thread nD τ))} :
    (m.view.loc (c : Thread nD τ) ↦[m.view.set]{fullShare} f : sProp 𝕄) ⊢ held (U := U) c m T D := by
  unfold held
  iintro H
  iexists f
  isplitr; · ipureintro; exact fun i h => absurd h (hD i)
  iexact H

/-- The target and the part may be exchanged for others that say no more. -/
theorem held_mono {m : Memref sig .tc .vmem s e} {T T' : s.Idx → Val e} {D D' : s.Idx → Prop} (h : ∀ i, D' i → D i ∧ T' i = T i) :
    (held c m T D : sProp 𝕄) ⊢ held (U := U) c m T' D' := by
  unfold held
  iintro ⟨%f, %hf, H⟩
  iexists f
  isplitr; · ipureintro; exact fun i hi => (hf i (h i hi).1).trans (h i hi).2.symm
  iexact H

variable {α : Type} {Q : α → sProp (MT nD τ sig Unit Val ℕ U ℕ)}

/-- A load inside the known part. -/
theorem held_load {m : Memref sig .tc .vmem s e} {T : s.Idx → Val e} {D : s.Idx → Prop} {r : Rect s} {hl : m.view.LoadsAt r.toLoadRect}
    {k : (r.shape.Idx → Val e) → Prog (TpuEff nD τ sig Val Λ .tc) α} (hD : ∀ j, D (r.emb j)) :
    (held c m T D : sProp 𝕄)
      ⊢ iprop((held c m T D -∗ wp frame (wpE defs 𝒱 (c : Thread nD τ) none) Set.univ (k (fun j => T (r.emb j))) Q)
        -∗ wp frame (wpE defs 𝒱 (c : Thread nD τ) none) Set.univ (.op (.load m r.toLoadRect hl) k) Q) := by
  unfold held
  iintro ⟨%f, %hf, H⟩ Hk
  iapply (wp_load_rect 𝒱 (c : Thread nD τ) none Set.univ (m := m) (r := r) (View.set_slice_subset _ r)) $$ H
  iintro H
  have e : (m.access r).read Val f = fun j => T (r.emb j) := funext fun j => hf _ (hD j)
  rw [e]
  iapply Hk
  iexists f
  isplitr; · ipureintro; exact hf
  iexact H

/-- A load whose value is not used. -/
theorem held_skip {m : Memref sig .tc .vmem s e} {T : s.Idx → Val e} {D : s.Idx → Prop} {r : Rect s} {hl : m.view.LoadsAt r.toLoadRect}
    {k : Prog (TpuEff nD τ sig Val Λ .tc) α} :
    (held c m T D : sProp 𝕄)
      ⊢ iprop((held c m T D -∗ wp frame (wpE defs 𝒱 (c : Thread nD τ) none) Set.univ k Q)
        -∗ wp frame (wpE defs 𝒱 (c : Thread nD τ) none) Set.univ (.op (.load m r.toLoadRect hl) fun _ => k) Q) := by
  unfold held
  iintro ⟨%f, %hf, H⟩ Hk
  iapply (wp_load_rect 𝒱 (c : Thread nD τ) none Set.univ (m := m) (r := r) (View.set_slice_subset _ r)) $$ H
  iintro H
  iapply Hk
  iexists f
  isplitr; · ipureintro; exact hf
  iexact H

/-- A store: the new part lies in the stored rectangle, where the new target is the stored vector, and the old part, where the
    targets agree. -/
theorem held_store {m : Memref sig .tc .vmem s e} {T T' : s.Idx → Val e} {D D' : s.Idx → Prop} {r : Rect s} {w : r.shape.Idx → Val e}
    {hx : (m.access r).Stores Finset.univ} {hm : Finset.univ = Finset.univ ∨ ∀ a, r.stride a = 1}
    {k : Prog (TpuEff nD τ sig Val Λ .tc) α} (h₁ : ∀ j, T' (r.emb j) = w j) (h₂ : ∀ i, D' i → i ∈ r.set ∨ (D i ∧ T' i = T i)) :
    (held c m T D : sProp 𝕄)
      ⊢ iprop((held c m T' D' -∗ wp frame (wpE defs 𝒱 (c : Thread nD τ) none) Set.univ k Q)
        -∗ wp frame (wpE defs 𝒱 (c : Thread nD τ) none) Set.univ (.op (.store m r w Finset.univ hx hm) fun _ => k) Q) := by
  unfold held
  iintro ⟨%f, %hf, H⟩ Hk
  iapply (wp_store 𝒱 (c : Thread nD τ) none Set.univ (m := m) (r := r) (S := m.view.set) (f := f)
    (View.set_slice_subset _ r)) $$ H
  iintro H
  iapply Hk
  iexists ((m.access r).write Val f w Finset.univ)
  isplitr
  · ipureintro
    intro i hi
    by_cases hr : i ∈ r.set
    · obtain ⟨j, hj⟩ : ∃ j, r.emb j = i := by
        rw [← Rect.map_emb_univ, Finset.mem_map] at hr
        obtain ⟨j, -, hj⟩ := hr
        exact ⟨j, hj⟩
      subst hj
      exact (View.read_slice_write_emb (v := m.view) r f w (Finset.mem_univ j)).trans (h₁ j).symm
    · have := (h₂ i hi).resolve_left hr
      have hn : i ∉ (Finset.univ : Finset r.shape.Idx).map r.emb := by rwa [Rect.map_emb_univ]
      exact (View.read_slice_write_of_not_mem (v := m.view) r f w Finset.univ hn).trans ((hf i this.1).trans this.2.symm)
  iexact H

/-! ## Slots -/

/-- The piece `r` of the buffer of `m` holds `w`. -/
def slotHeld (m : Memref sig .tc .vmem s e) (r : Rect s) (w : r.shape.Idx → Val e) : sProp 𝕄 :=
  iprop(∃ f : Buf Val (m.view.loc (c : Thread nD τ)), ⌜(m.access r).read Val f = w⌝ ∗ (m.view.loc (c : Thread nD τ) ↦[(m.access r).set]{fullShare} f))

/-- The piece `r` of the buffer of `m`, at some contents. -/
def slotAny (m : Memref sig .tc .vmem s e) (r : Rect s) : sProp 𝕄 :=
  iprop(∃ f : Buf Val (m.view.loc (c : Thread nD τ)), (m.view.loc (c : Thread nD τ) ↦[(m.access r).set]{fullShare} f))

/-- A buffer of two slots. -/
theorem slots_split {m : Memref sig .tc .vmem s e} {r₀ r₁ : Rect s} (h : ∀ i : s.Idx, i ∈ r₁.set ↔ i ∉ r₀.set)
    {f : Buf Val (m.view.loc (c : Thread nD τ))} :
    (m.view.loc (c : Thread nD τ) ↦[m.view.set]{fullShare} f : sProp 𝕄) ⊢ iprop(slotAny (U := U) c m r₀ ∗ slotAny (U := U) c m r₁) := by
  have hs : m.view.set \ (m.access r₀).set = (m.access r₁).set := by
    ext x
    rw [Finset.mem_sdiff, View.set_slice, View.set_slice, Finset.mem_map, Finset.mem_map]
    constructor
    · rintro ⟨hx, hn⟩
      obtain ⟨i, -, rfl⟩ := Finset.mem_map.mp hx
      exact ⟨i, (h i).mpr fun hi => hn ⟨i, hi, rfl⟩, rfl⟩
    · rintro ⟨i, hi, rfl⟩
      refine ⟨View.emb_mem_set _ i, ?_⟩
      rintro ⟨j, hj, hji⟩
      exact (h i).mp hi (m.view.emb.injective hji ▸ hj)
  unfold slotAny
  iintro H
  ihave H := (pointsTo_split_subset (View.set_slice_subset m.view r₀)).1 $$ H
  icases H with ⟨H0, H1⟩
  isplitl [H0]
  · iexists f; iexact H0
  · iexists f; rw [← hs]; iexact H1

theorem slots_join {m : Memref sig .tc .vmem s e} {r₀ r₁ : Rect s} (h : ∀ i : s.Idx, i ∈ r₁.set ↔ i ∉ r₀.set) :
    (iprop(slotAny (U := U) c m r₀ ∗ slotAny (U := U) c m r₁) : sProp 𝕄) ⊢
      iprop(∃ f : Buf Val (m.view.loc (c : Thread nD τ)), (m.view.loc (c : Thread nD τ) ↦[m.view.set]{fullShare} f)) := by
  have hs : m.view.set \ (m.access r₀).set = (m.access r₁).set := by
    ext x
    rw [Finset.mem_sdiff, View.set_slice, View.set_slice, Finset.mem_map, Finset.mem_map]
    constructor
    · rintro ⟨hx, hn⟩
      obtain ⟨i, -, rfl⟩ := Finset.mem_map.mp hx
      exact ⟨i, (h i).mpr fun hi => hn ⟨i, hi, rfl⟩, rfl⟩
    · rintro ⟨i, hi, rfl⟩
      refine ⟨View.emb_mem_set _ i, ?_⟩
      rintro ⟨j, hj, hji⟩
      exact (h i).mp hi (m.view.emb.injective hji ▸ hj)
  unfold slotAny
  iintro ⟨⟨%f, H0⟩, ⟨%g, H1⟩⟩
  iexists ((m.access r₀).set.piecewise f g)
  iapply (pointsTo_join_subset (View.set_slice_subset m.view r₀))
  isplitl [H0]; · iexact H0
  rw [hs]; iexact H1

theorem slotHeld_any {m : Memref sig .tc .vmem s e} {r : Rect s} {w : r.shape.Idx → Val e} :
    (slotHeld c m r w : sProp 𝕄) ⊢ slotAny (U := U) c m r := by
  unfold slotHeld slotAny
  iintro ⟨%f, -, H⟩
  iexists f; iexact H

/-- A load of a slot. -/
theorem slot_load {m : Memref sig .tc .vmem s e} {r : Rect s} {w : r.shape.Idx → Val e} {hl : m.view.LoadsAt r.toLoadRect}
    {k : (r.shape.Idx → Val e) → Prog (TpuEff nD τ sig Val Λ .tc) α} :
    (slotHeld c m r w : sProp 𝕄)
      ⊢ iprop((slotHeld c m r w -∗ wp frame (wpE defs 𝒱 (c : Thread nD τ) none) Set.univ (k w) Q)
        -∗ wp frame (wpE defs 𝒱 (c : Thread nD τ) none) Set.univ (.op (.load m r.toLoadRect hl) k) Q) := by
  unfold slotHeld
  iintro ⟨%f, %hf, H⟩ Hk
  iapply (wp_load_rect 𝒱 (c : Thread nD τ) none Set.univ (m := m) (r := r) subset_rfl) $$ H
  iintro H
  rw [hf]
  iapply Hk
  iexists f
  isplitr; · ipureintro; exact hf
  iexact H

/-! ## Local copies into a slot -/

section Copy

variable {sm₀ : Shape} {ms : Memref sig .tc .hbm sm₀ e} {q : PosShare TreeShare}

/-- The slot `r` of `m` is free: at some contents, its semaphore at zero, a share of the source beside it. -/
def slotFree (m : Memref sig .tc .vmem s e) (r : Rect s) (sem : DmaSem sig) (ms : Memref sig .tc .hbm sm₀ e) (q : PosShare TreeShare)
    (g : Buf Val (ms.view.loc (c : Thread nD τ))) : sProp 𝕄 :=
  iprop(slotAny (U := U) c m r ∗ semVal ((c : Thread nD τ), SemLoc.dma sem) 0 ∗ (ms.view.loc (c : Thread nD τ) ↦[ms.view.set]{q} g))

variable [CountersIn U]

/-- A copy of the piece `rs` of the source into the slot is under way. -/
def slotFly (m : Memref sig .tc .vmem s e) (r : Rect s) (sem : DmaSem sig) (ms : Memref sig .tc .hbm sm₀ e) (q : PosShare TreeShare)
    (g : Buf Val (ms.view.loc (c : Thread nD τ))) (N : ℕ) (rs : Rect sm₀) (hc : rs.shape.ShapeCasts r.shape) : sProp 𝕄 :=
  iprop(Flight (Name := ℕ) countersEmb (c : Thread nD τ) (SemLoc.dma sem) () N
      iprop(slotHeld (U := U) c m r (shapeCast r.shape ((ms.access rs).read Val g) hc) ∗ (ms.view.loc (c : Thread nD τ) ↦[(ms.access rs).set]{q} g))
    ∗ (ms.view.loc (c : Thread nD τ) ↦[ms.view.set \ (ms.access rs).set]{q} g))

/-- Start the copy: the slot is the piece `r` of `m`, seen at the shape of the source's piece. -/
theorem slot_start {m : Memref sig .tc .vmem s e} {r : Rect s} {rs : Rect sm₀} {hr : ∀ a, r.stride a = 1} {hq : r.shape.Squeezes rs.shape} {sem : DmaSem sig}
    {g : Buf Val (ms.view.loc (c : Thread nD τ))} {N : ℕ} {hrs : ∀ a, rs.stride a = 1} {hc : rs.shape.ShapeCasts r.shape}
    {hsrc : (ms.slice rs hrs).view.WordExact} {hdst : ((m.slice r hr).squeeze rs.shape hq).view.WordExact}
    {hsem : DmaTarget.Typed (nD := nD) .hbm (SemLoc.dma sem) (DmaTarget.here (p := Proc.tc (τ := τ)) ((m.slice r hr).squeeze rs.shape hq))}
    {k : Prog (TpuEff nD τ sig Val Λ .tc) α}
    (hN : ((m.slice r hr).squeeze rs.shape hq).view.dmaCredit = N) (hN0 : 0 < N) :
    (slotFree (U := U) c m r sem ms q g : sProp 𝕄)
      ⊢ iprop((slotFly (U := U) c m r sem ms q g N rs hc -∗ wp frame (wpE defs 𝒱 (c : Thread nD τ) none) Set.univ k Q)
        -∗ wp frame (wpE defs 𝒱 (c : Thread nD τ) none) Set.univ
          (.op (.enqueueDma (ms.slice rs hrs) (.here ((m.slice r hr).squeeze rs.shape hq)) (.dma sem) hsrc hdst hsem) fun _ => k) Q) := by
  unfold slotFree slotFly slotAny
  iintro ⟨⟨%f, Hd⟩, Hv, Hs⟩ Hk
  ihave Hs := (pointsTo_split_subset (View.set_slice_subset ms.view rs)).1 $$ Hs
  icases Hs with ⟨Hs, Hrest⟩
  have hset : ((m.slice r hr).squeeze rs.shape hq).view.set = (m.access r).set := by
    simp [Memref.squeeze]
  iapply (wp_dmaLocal countersEmb 𝒱 (c : Thread nD τ) none (src := ms.slice rs hrs) (dst := (m.slice r hr).squeeze rs.shape hq)
      (via := ReadAs.same) (sm := SemLoc.dma sem) (Sd := (m.access r).set) (fd := f) (fs := g) () N hN hN0 (by rw [hset])) $$ [Hs Hd Hv]
  · isplitl [Hs]; · iexact Hs
    isplitl [Hd]; · iexact Hd
    iexact Hv
  iintro HF
  iapply Hk
  isplitl [HF]
  · iapply (Flight_mono countersEmb (c : Thread nD τ) ?_) $$ HF
    unfold slotHeld
    iintro ⟨Hd, Hs⟩
    isplitl [Hd]
    · iexists _
      isplitr
      rotate_left
      · iexact Hd
      · ipureintro
        have hread : ((m.slice r hr).squeeze rs.shape hq).view.read Val (((m.slice r hr).squeeze rs.shape hq).view.write Val f
            (ReadAs.same.apply ((ms.slice rs hrs).view.read Val g)) Finset.univ) = (ms.access rs).read Val g :=
          View.read_write_univ _ _
        funext j
        have hj := congrFun hread (Shape.reshapeEquiv hc j)
        refine Eq.trans ?_ hj
        refine congrArg ((m.access r).read Val _) ?_
        exact (by rw [Shape.reshapeEquiv_reshapeEquiv, Shape.reshapeEquiv_self] : j = Shape.reshapeEquiv hq.numel_eq (Shape.reshapeEquiv hc j))
    · iexact Hs
  · iexact Hrest

/-- Wait for it: the slot holds the piece of the source. -/
theorem slot_wait {m : Memref sig .tc .vmem s e} {r : Rect s} {sem : DmaSem sig}
    {g : Buf Val (ms.view.loc (c : Thread nD τ))} {N : ℕ} {rs : Rect sm₀} {hc : rs.shape.ShapeCasts r.shape}
    {t : Shape} {src : Memref sig .tc .hbm t e} {dst : Memref sig .tc .vmem t e} {hsrc : src.view.WordExact} {hdst : dst.view.WordExact}
    {k : Prog (TpuEff nD τ sig Val Λ .tc) α} (hN : dst.view.dmaCredit = N) {W : Waits sig Unit} :
    (iprop(slotFly (U := U) c m r sem ms q g N rs hc ∗ owes (c : Thread nD τ) 0 W) : sProp 𝕄)
      ⊢ iprop((iprop((slotHeld (U := U) c m r (shapeCast r.shape ((ms.access rs).read Val g) hc)
            ∗ semVal ((c : Thread nD τ), SemLoc.dma sem) 0 ∗ (ms.view.loc (c : Thread nD τ) ↦[ms.view.set]{q} g))
            ∗ owes (c : Thread nD τ) 0 (insert (SemLoc.dma sem, ()) W)) -∗ wp frame (wpE defs 𝒱 (c : Thread nD τ) none) Set.univ k Q)
        -∗ wp frame (wpE defs 𝒱 (c : Thread nD τ) none) Set.univ (.op (.waitDma2 sem src dst hsrc hdst) fun _ => k) Q) := by
  unfold slotFly
  iintro ⟨⟨HF, Hrest⟩, HO⟩ Hk
  iapply (wp_waitLocal countersEmb 𝒱 (c : Thread nD τ) none () hN) $$ [HF HO]
  · isplitl [HF]; · iexact HF
    iexact HO
  iintro ⟨⟨Hd, Hs⟩, Hv, HO⟩
  iapply Hk
  isplitr [HO]
  · isplitl [Hd]; · iexact Hd
    isplitl [Hv]; · iexact Hv
    iapply (pointsTo_split_subset (View.set_slice_subset ms.view rs)).2
    isplitl [Hs]; · iexact Hs
    iexact Hrest
  · iexact HO

end Copy

/-! ## Programs with a loop -/

/-- An invariant carried through the steps of a loop. -/
theorem loop_inv {M : Type} [URA M] {N : ℕ} {Pg : Type 1} (W : Pg → sProp M) (f : Fin N → Pg → Pg) (lp : (c n : ℕ) → c + n = N → Pg → Pg)
    (h0 : ∀ n h k, lp 0 n h k = k) (hs : ∀ c n h k, lp (c + 1) n h k = f ⟨n, by omega⟩ (lp c (n + 1) (by omega) k))
    (I : ℕ → sProp M) (step : ∀ (n : Fin N) k, iprop(I n.val ∗ (I (n.val + 1) -∗ W k)) ⊢ W (f n k)) :
    ∀ (c n : ℕ) (h : c + n = N) (k : Pg), iprop(I n ∗ (I N -∗ W k)) ⊢ W (lp c n h k) := by
  intro c
  induction c with
  | zero =>
    intro n h k
    have : n = N := by omega
    subst this
    rw [h0]
    iintro ⟨HI, Hk⟩
    iapply Hk $$ HI
  | succ c ih =>
    intro n h k
    rw [hs]
    refine BIBase.Entails.trans ?_ (step ⟨n, by omega⟩ _)
    iintro ⟨HI, Hk⟩
    isplitl [HI]; · iexact HI
    iintro HI
    iapply (ih (n + 1) _ k)
    isplitl [HI]; · iexact HI
    iexact Hk

end Cert.Held
-- ==== Proof.Lib.Tiles.lean ====
/- Arrays cut into blocks: the array made of given blocks, and the rules for loading and storing one of them. -/
module

public import proofs.«01_k».proof.Proof.Lib.Held

@[expose] public section

noncomputable section

namespace Cert.Held

open Idealize.ShloMosaic Idealize.ShloMosaic.Transfers
open Idealize.ShloMosaic.TcCoe
open Idealize.SL Idealize.SL.RA Idealize.SL.BI
open scoped Idealize.SL.BI
open Idealize.SL.BI.BIBase Idealize.SL.BI.Laws Idealize.SL.ProofMode Idealize.SL.Sem

/-- Disjoint rectangles that cover an array. -/
structure Tiles (s : Shape) (B : Type) where
  /-- The rectangles. -/
  r : B → Rect s
  cover : ∀ i : s.Idx, ∃ b j, (r b).emb j = i
  inj : ∀ b b' j j', (r b).emb j = (r b').emb j' → b = b'

namespace Tiles

variable {s : Shape} {B : Type} (t : Tiles s B) {α : Type}

/-- The array whose block `b` is `w b`. -/
def val (w : ∀ b, (t.r b).shape.Idx → α) : s.Idx → α :=
  fun i => w (t.cover i).choose (t.cover i).choose_spec.choose

theorem val_emb (w : ∀ b, (t.r b).shape.Idx → α) (b : B) (j : (t.r b).shape.Idx) : t.val w ((t.r b).emb j) = w b j := by
  have key : ∀ b' (j' : (t.r b').shape.Idx), (t.r b').emb j' = (t.r b).emb j → w b' j' = w b j := by
    intro b' j' h
    obtain rfl := t.inj _ _ _ _ h
    rw [(t.r b').emb.injective h]
  exact key _ _ (t.cover ((t.r b).emb j)).choose_spec.choose_spec

/-- The blocks a predicate names. -/
def on (p : B → Prop) : s.Idx → Prop := fun i => ∃ b, p b ∧ ∃ j, (t.r b).emb j = i

theorem on_emb {p : B → Prop} {b : B} (h : p b) (j : (t.r b).shape.Idx) : t.on p ((t.r b).emb j) := ⟨b, h, j, rfl⟩

theorem on_all {p : B → Prop} (h : ∀ b, p b) (i : s.Idx) : t.on p i := by
  obtain ⟨b, j, hj⟩ := t.cover i
  exact ⟨b, h b, j, hj⟩

end Tiles

variable {nD : Nat} {τ : Topo} {sig : RefSig} {Val : EltTy → Type} {U : Type} [URA U]

local notation "𝕄" => MT nD τ sig Unit Val ℕ U ℕ

variable {Λ : Labels} {defs : Defs nD τ sig Val Λ} (𝒱 : Variants) (c : Dev nD)
variable {s : Shape} {e : EltTy} {B : Type} (t : Tiles s B)
variable {α : Type} {Q : α → sProp (MT nD τ sig Unit Val ℕ U ℕ)}

theorem tile_load {m : Memref sig .tc .vmem s e} {w : ∀ b, (t.r b).shape.Idx → Val e} {p : B → Prop} (b : B) (hp : p b)
    {hl : m.view.LoadsAt (t.r b).toLoadRect} {k : ((t.r b).shape.Idx → Val e) → Prog (TpuEff nD τ sig Val Λ .tc) α} :
    (held c m (t.val w) (t.on p) : sProp 𝕄)
      ⊢ iprop((held c m (t.val w) (t.on p) -∗ wp frame (wpE defs 𝒱 (c : Thread nD τ) none) Set.univ (k (w b)) Q)
        -∗ wp frame (wpE defs 𝒱 (c : Thread nD τ) none) Set.univ (.op (.load m (t.r b).toLoadRect hl) k) Q) := by
  have h : (fun j => t.val w ((t.r b).emb j)) = w b := funext fun j => t.val_emb w b j
  have := held_load (U := U) (defs := defs) (Q := Q) 𝒱 c (m := m) (T := t.val w) (D := t.on p) (r := t.r b) (hl := hl) (k := k)
    (t.on_emb hp)
  rwa [h] at this

/-- Storing block `b`: the other known blocks stay. -/
theorem tile_store {m : Memref sig .tc .vmem s e} {w w' : ∀ b, (t.r b).shape.Idx → Val e} {p p' : B → Prop} (b : B)
    {v : (t.r b).shape.Idx → Val e} (hv : w' b = v) (hp : ∀ b', p' b' → b' = b ∨ (p b' ∧ w' b' = w b'))
    {hx : (m.access (t.r b)).Stores Finset.univ} {hm : Finset.univ = Finset.univ ∨ ∀ a, (t.r b).stride a = 1}
    {k : Prog (TpuEff nD τ sig Val Λ .tc) α} :
    (held c m (t.val w) (t.on p) : sProp 𝕄)
      ⊢ iprop((held c m (t.val w') (t.on p') -∗ wp frame (wpE defs 𝒱 (c : Thread nD τ) none) Set.univ k Q)
        -∗ wp frame (wpE defs 𝒱 (c : Thread nD τ) none) Set.univ (.op (.store m (t.r b) v Finset.univ hx hm) fun _ => k) Q) := by
  refine held_store 𝒱 c (fun j => by rw [t.val_emb, hv]) ?_
  rintro i ⟨b', hb', j, rfl⟩
  by_cases hbb : b' = b
  · subst hbb
    exact Or.inl (by rw [← Rect.map_emb_univ]; exact Finset.mem_map_of_mem _ (Finset.mem_univ j))
  · obtain ⟨h₁, h₂⟩ := (hp b' hb').resolve_left hbb
    exact Or.inr ⟨t.on_emb h₁ j, by rw [t.val_emb, t.val_emb, h₂]⟩

/-- With every block known, the whole array is. -/
theorem tile_all {m : Memref sig .tc .vmem s e} {w : ∀ b, (t.r b).shape.Idx → Val e} {p : B → Prop} (h : ∀ b, p b) :
    (held c m (t.val w) (t.on p) : sProp 𝕄) ⊢ held (U := U) c m (t.val w) (fun _ => True) :=
  held_mono c fun i _ => ⟨t.on_all h i, rfl⟩

/-- The blocks may be exchanged for equal ones, and fewer named. -/
theorem tile_mono {m : Memref sig .tc .vmem s e} {w w' : ∀ b, (t.r b).shape.Idx → Val e} {p p' : B → Prop} (h : ∀ b, p' b → p b ∧ w' b = w b) :
    (held c m (t.val w) (t.on p) : sProp 𝕄) ⊢ held (U := U) c m (t.val w') (t.on p') := by
  refine held_mono c ?_
  rintro i ⟨b, hb, j, rfl⟩
  exact ⟨t.on_emb (h b hb).1 j, by rw [t.val_emb, t.val_emb, (h b hb).2]⟩

end Cert.Held
-- ==== Proof.BodyI.Prog.lean ====
/- The kernel's body as one program with loops.

   The printed body is a long straight line, cut into parts at places that have nothing to do with what it computes.
   Here it is written again as the source has it: a prologue, eight weight strips, the rotary columns, the two
   exchanges' waits, the key and value tiles, sixteen heads. Each piece takes the rest of the program as its last
   argument. `body_eq` says that this is the printed body. -/
module

public import proofs.«01_k».proof.Proof.Gen.KernelIdeal
public import proofs.«01_k».proof.Proof.Gen.KernelIdeal.Skeleton
public import Idealize.ShloMosaic.Lib.Pipeline.Regions

@[expose] public section

set_option synthInstance.maxSize 4096

noncomputable section

namespace Cert.KernelIdeal.Mla

open Idealize.ShloMosaic Idealize.SL.Sem Cert.KernelIdeal Cert.KernelIdeal.Gen

/-- Programs of the body. -/
abbrev P (F : FTy → Type) [FloatOps F] : Type 1 := Prog (TpuEff nD τ sig (Elt F) Λ₀ .tc) PUnit

/-! ## Bounds of the rectangles at a symbolic index -/

theorem inb_strip : ∀ (b : Fin 2) (n : Fin 8), ∀ a, (![512 * b.val, 256 * n.val] : Fin 2 → Nat) a + S512x256.size a ≤ S1024x2048.size a := by decide
theorem inb_col : ∀ (b : Fin 2) (h : Fin 16), ∀ a, (![512 * b.val, 128 * h.val] : Fin 2 → Nat) a + S512x128.size a ≤ S1024x2048.size a := by decide
theorem inb_tile : ∀ (b : Fin 2) (n : Fin 4), ∀ a, (![512 * b.val, 512 * n.val] : Fin 2 → Nat) a + S512x512.size a ≤ S1024x2048.size a := by decide
theorem inb_row : ∀ (b : Fin 2), ∀ a, (![512 * b.val, 0] : Fin 2 → Nat) a + S512x2048.size a ≤ S1024x2048.size a := by decide
theorem inb_c : ∀ (b : Fin 2), ∀ a, (![512 * b.val, 0] : Fin 2 → Nat) a + S512x128.size a ≤ S1024x128.size a := by decide
theorem inb_kr : ∀ (b : Fin 2), ∀ a, (![512 * b.val, 0] : Fin 2 → Nat) a + S512x32.size a ≤ S1024x32.size a := by decide
theorem inb_qr : ∀ (b : Fin 2) (h : Fin 16), ∀ a, (![h.val, 512 * b.val, 0] : Fin 3 → Nat) a + S1x512x32.size a ≤ S16x1024x32.size a := by decide
theorem inb_w : ∀ (j : Fin 2), ∀ a, (![j.val, 0, 0] : Fin 3 → Nat) a + S1x128x2048.size a ≤ S2x128x2048.size a := by decide
theorem inb_wt : ∀ (j : Fin 2) (n : Fin 4), ∀ a, (![j.val, 0, 512 * n.val] : Fin 3 → Nat) a + S1x128x512.size a ≤ S2x128x2048.size a := by decide
theorem inb_x : ∀ (b : Fin 2), ∀ a, (![b.val, 0, 0] : Fin 3 → Nat) a + S1x512x2048.size a ≤ S2x512x2048.size a := by decide
theorem inb_out : ∀ (b d : Fin 2), ∀ a, (![b.val, 0, 1024 * d.val] : Fin 3 → Nat) a + S1x512x1024.size a ≤ S2x512x2048.size a := by decide
theorem inb_sb : ∀ (k : Fin 2), ∀ a, (![k.val, 0, 0] : Fin 3 → Nat) a + S1x2048x256.size a ≤ S2x2048x256.size a := by decide
theorem inb_wq : ∀ (n : Fin 8), ∀ a, (![0, 256 * n.val] : Fin 2 → Nat) a + S2048x256.size a ≤ S2048x2048.size a := by decide
theorem inb_wo : ∀ (h : Fin 16), ∀ a, (![128 * h.val, 0] : Fin 2 → Nat) a + S128x2048.size a ≤ S2048x2048.size a := by decide
theorem inb_sem : ∀ (k : Fin 2), ∀ a, (![k.val] : Fin 1 → Nat) a + S1.size a ≤ S2.size a := by decide

/-! ## The rectangles -/

abbrev rStrip (b : Fin 2) (n : Fin 8) : Rect S1024x2048 := Rect.unit ![512 * b.val, 256 * n.val] S512x256.size (inb_strip b n)
abbrev rCol (b : Fin 2) (h : Fin 16) : Rect S1024x2048 := Rect.unit ![512 * b.val, 128 * h.val] S512x128.size (inb_col b h)
abbrev rTile (b : Fin 2) (n : Fin 4) : Rect S1024x2048 := Rect.unit ![512 * b.val, 512 * n.val] S512x512.size (inb_tile b n)
abbrev rRow (b : Fin 2) : Rect S1024x2048 := Rect.unit ![512 * b.val, 0] S512x2048.size (inb_row b)
abbrev rC (b : Fin 2) : Rect S1024x128 := Rect.unit ![512 * b.val, 0] S512x128.size (inb_c b)
abbrev rKr (b : Fin 2) : Rect S1024x32 := Rect.unit ![512 * b.val, 0] S512x32.size (inb_kr b)
abbrev rQr (b : Fin 2) (h : Fin 16) : Rect S16x1024x32 := Rect.unit ![h.val, 512 * b.val, 0] S1x512x32.size (inb_qr b h)
abbrev rW (j : Fin 2) : Rect S2x128x2048 := Rect.unit ![j.val, 0, 0] S1x128x2048.size (inb_w j)
abbrev rWt (j : Fin 2) (n : Fin 4) : Rect S2x128x2048 := Rect.unit ![j.val, 0, 512 * n.val] S1x128x512.size (inb_wt j n)
abbrev rX (b : Fin 2) : Rect S2x512x2048 := Rect.unit ![b.val, 0, 0] S1x512x2048.size (inb_x b)
abbrev rOut (b d : Fin 2) : Rect S2x512x2048 := Rect.unit ![b.val, 0, 1024 * d.val] S1x512x1024.size (inb_out b d)
abbrev rSb (k : Fin 2) : Rect S2x2048x256 := Rect.unit ![k.val, 0, 0] S1x2048x256.size (inb_sb k)
abbrev rWq (n : Fin 8) : Rect S2048x2048 := Rect.unit ![0, 256 * n.val] S2048x256.size (inb_wq n)
abbrev rWo (h : Fin 16) : Rect S2048x2048 := Rect.unit ![128 * h.val, 0] S128x2048.size (inb_wo h)
abbrev rSem (k : Fin 2) : Rect S2 := Rect.unit ![k.val] S1.size (inb_sem k)

theorem pk_strip : ∀ (b : Fin 2) (n : Fin 8), (rStrip b n).PackedRows (EltTy.packing .bf16) := by decide
theorem pk_tile : ∀ (b : Fin 2) (n : Fin 4), (rTile b n).PackedRows (EltTy.packing .bf16) := by decide
theorem pk_row : ∀ (b : Fin 2), (rRow b).PackedRows (EltTy.packing .bf16) := by decide
theorem pk_c : ∀ (b : Fin 2), (rC b).PackedRows (EltTy.packing .bf16) := by decide
theorem pk_kr : ∀ (b : Fin 2), (rKr b).PackedRows (EltTy.packing .bf16) := by decide
theorem pk_qr : ∀ (b : Fin 2) (h : Fin 16), (rQr b h).PackedRows (EltTy.packing .bf16) := by decide
theorem pk_w : ∀ (j : Fin 2), (rW j).PackedRows (EltTy.packing .bf16) := by decide
theorem pk_out : ∀ (b d : Fin 2), (rOut b d).PackedRows (EltTy.packing .f32) := by decide

theorem sl_qr : ∀ (h : Fin 16), S512x512.Slices ![0, 32 * h.val] S512x32 := by decide
theorem sl_wo : ∀ (d : Fin 2), S128x2048.Slices ![0, 1024 * d.val] S128x1024 := by decide

variable {F : FTy → Type} [FloatOps F] [Named F]

/-! ## What the body computes, block by block -/

/-- The rotary queries of one batch, all heads side by side. -/
def pQrAll (wqr : Vec F S2048x512 .f32) (xb : Vec F S512x2048 .bf16) : FVec F S512x512 .bf16 := k0_pay38 wqr xb

/-- Head `h`'s columns of them. -/
def pQr (wqr : Vec F S2048x512 .f32) (xb : Vec F S512x2048 .bf16) (h : Fin 16) : FVec F S1x512x32 .bf16 :=
  shapeCast S1x512x32 (extractStridedSlice S512x32 ![0, 32 * h.val] (pQrAll wqr xb) (sl_qr h)) shapeCasts_S512x32_S1x512x32

/-- One head's output rows of one batch, before the output weights. -/
def pOb (q k : Vec F S512x128 .bf16) (qr : Vec F S1x512x32 .bf16) (kr : Vec F S512x32 .bf16) (v : Vec F S512x128 .bf16) :
    FVec F S512x128 .bf16 := k0_pay99 q k qr kr v

/-- Half `d` of the columns of one head's contribution to the output. -/
def pContrib (wo : Vec F S1x128x2048 .f32) (ob : FVec F S512x128 .bf16) (d : Fin 2) : FVec F S512x1024 .f32 :=
  matmul dot_S512x128_S128x1024_S512x1024_1_0_0_1_n_n none ob
    (extractStridedSlice S128x1024 ![0, 1024 * d.val] (k0_pay105 wo) (sl_wo d)) (constant S512x1024 .f32 0x00000000#32)

/-- What the first head stores. -/
def pOut0 (wo : Vec F S1x128x2048 .f32) (ob : FVec F S512x128 .bf16) (d : Fin 2) : FVec F S1x512x1024 .f32 :=
  shapeCast S1x512x1024 (pContrib wo ob d) shapeCasts_S512x1024_S1x512x1024

/-- What a later head stores, over what is there. -/
def pOut (wo : Vec F S1x128x2048 .f32) (ob : FVec F S512x128 .bf16) (d : Fin 2) (old : Vec F S1x512x1024 .f32) : FVec F S1x512x1024 .f32 :=
  shapeCast S1x512x1024 (addf (shapeCast S512x1024 old shapeCasts_S1x512x1024_S512x1024) (pContrib wo ob d)) shapeCasts_S512x1024_S1x512x1024

/-! ## Single steps, the rest of the program last -/

/-- A load. -/
abbrev ld {s : Shape} {e : EltTy} (m : Memref sig .tc .vmem s e) (r : Rect s) (h : 0 < r.shape.numel) (k : (r.shape.Idx → Elt F e) → P F) : P F :=
  .op (.load m r.toLoadRect (View.loadsAt_vmem h)) k

/-- A whole store. -/
abbrev st {s : Shape} {e : EltTy} (m : Memref sig .tc .vmem s e) (hm : m.IsWhole) (r : Rect s) (h : 0 < r.shape.numel)
    (hp : r.PackedRows e.packing) (w : r.shape.Idx → Elt F e) (k : P F) : P F :=
  .op (.store m r w Finset.univ (View.stores_vmem h (hm.storeExact_slice rfl _ hp) (fun _ => rfl)) (.inl rfl)) (fun _ => k)

/-- One of the two semaphores of an array. -/
abbrev sm (a : DmaSems sig S2) (k : Fin 2) : DmaSem sig := ((a.slice (rSem k)).squeeze S_ squeezes_S1_S_).sem

/-- A slot of the weight-strip buffer. -/
abbrev sbSlot (m : Memref sig .tc .vmem S2x2048x256 .f32) (k : Fin 2) : Memref sig .tc .vmem S2048x256 .f32 :=
  (m.slice (rSb k) (fun _ => rfl)).squeeze S2048x256 squeezes_S1x2048x256_S2048x256

/-- A slot of the output-weight buffer. -/
abbrev wbSlot (m : Memref sig .tc .vmem S2x128x2048 .f32) (k : Fin 2) : Memref sig .tc .vmem S128x2048 .f32 :=
  (m.slice (rW k) (fun _ => rfl)).squeeze S128x2048 squeezes_S1x128x2048_S128x2048

/-- A strip of the query weights. -/
abbrev wqStrip (m : Memref sig .tc .hbm S2048x2048 .f32) (n : Fin 8) : Memref sig .tc .hbm S2048x256 .f32 := m.slice (rWq n) (fun _ => rfl)

/-- A head's rows of the output weights. -/
abbrev woStrip (m : Memref sig .tc .hbm S2048x2048 .f32) (h : Fin 16) : Memref sig .tc .hbm S128x2048 .f32 := m.slice (rWo h) (fun _ => rfl)

/-- Start a local copy of 32-bit words. -/
abbrev cpStart {s : Shape} (src : Memref sig .tc .hbm s .f32) (dst : Memref sig .tc .vmem s .f32) (sem : DmaSem sig) (k : P F) : P F :=
  .op (.enqueueDma src (.here dst) (.dma sem) (View.wordExact_bits rfl) (View.wordExact_bits rfl) ⟨Or.inl rfl, trivial⟩) (fun _ => k)

/-- Wait for it. -/
abbrev cpWait {s : Shape} (src : Memref sig .tc .hbm s .f32) (dst : Memref sig .tc .vmem s .f32) (sem : DmaSem sig) (k : P F) : P F :=
  .op (.waitDma2 sem src dst (View.wordExact_bits rfl) (View.wordExact_bits rfl)) (fun _ => k)

/-- The strip that follows strip `n`, when there is one. -/
def next8 (n : Fin 8) : Option (Fin 8) := if h : n.val + 1 < 8 then some ⟨n.val + 1, h⟩ else none
def next16 (n : Fin 16) : Option (Fin 16) := if h : n.val + 1 < 16 then some ⟨n.val + 1, h⟩ else none

/-- The slot of a strip. -/
def slot (n : ℕ) : Fin 2 := ⟨n % 2, Nat.mod_lt _ (by decide)⟩

section

variable (arg0 : Memref sig .tc .vmem S2x512x2048 .f32) (harg0 : arg0.IsWhole) (arg1 : Memref sig .tc .vmem S2048x128 .f32) (harg1 : arg1.IsWhole) (arg2 : Memref sig .tc .vmem S128x2048 .f32) (harg2 : arg2.IsWhole) (arg3 : Memref sig .tc .vmem S128x2048 .f32) (harg3 : arg3.IsWhole) (arg4 : Memref sig .tc .hbm S2048x2048 .f32) (harg4 : arg4.IsWhole) (arg5 : Memref sig .tc .vmem S2048x512 .f32) (harg5 : arg5.IsWhole) (arg6 : Memref sig .tc .vmem S2048x32 .f32) (harg6 : arg6.IsWhole) (arg7 : Memref sig .tc .hbm S2048x2048 .f32) (harg7 : arg7.IsWhole) (arg8 : Memref sig .tc .vmem S2x512x2048 .f32) (harg8 : arg8.IsWhole) (arg9 : Memref sig .tc .vmem S1024x2048 .bf16) (harg9 : arg9.IsWhole) (arg10 : Memref sig .tc .vmem S1024x128 .bf16) (harg10 : arg10.IsWhole) (arg11 : Memref sig .tc .vmem S1024x128 .bf16) (harg11 : arg11.IsWhole) (arg12 : Memref sig .tc .vmem S2x128x2048 .bf16) (harg12 : arg12.IsWhole) (arg13 : Memref sig .tc .vmem S2x128x2048 .bf16) (harg13 : arg13.IsWhole) (arg14 : Memref sig .tc .vmem S1024x2048 .bf16) (harg14 : arg14.IsWhole) (arg15 : Memref sig .tc .vmem S16x1024x32 .bf16) (harg15 : arg15.IsWhole) (arg16 : Memref sig .tc .vmem S1024x32 .bf16) (harg16 : arg16.IsWhole) (arg17 : Memref sig .tc .vmem S1024x2048 .bf16) (harg17 : arg17.IsWhole) (arg18 : Memref sig .tc .vmem S1024x2048 .bf16) (harg18 : arg18.IsWhole) (arg19 : Memref sig .tc .vmem S2x2048x256 .f32) (harg19 : arg19.IsWhole) (arg20 : Memref sig .tc .vmem S2x128x2048 .f32) (harg20 : arg20.IsWhole) (arg21 : DmaSems sig S2) (arg22 : DmaSems sig S2) (arg23 : DmaSems sig S2) (arg24 : DmaSems sig S2)

/-! ## The weight strips and the queries -/

def stripStart (n : Fin 8) (k : P F) : P F := cpStart (wqStrip arg4 n) (sbSlot arg19 (slot n)) (sm arg23 (slot n)) k
def stripWait (n : Fin 8) (k : P F) : P F := cpWait (wqStrip arg4 n) (sbSlot arg19 (slot n)) (sm arg23 (slot n)) k

/-- The queries of batch `b` at strip `n`. -/
def qStep (n : Fin 8) (w : Vec F S1x2048x256 .f32) (b : Fin 2) (k : P F) : P F :=
  ld arg9 (rRow b) h_S512x2048 fun xb =>
  ld arg14 (rStrip b n) h_S512x256 fun _ =>
  st arg14 harg14 (rStrip b n) h_S512x256 (pk_strip b n) (k0_pay10 w xb) k

def strip (n : Fin 8) (k : P F) : P F :=
  (match next8 n with | some n' => fun k => stripStart arg4 arg19 arg23 n' k | none => fun k => k) <|
  stripWait arg4 arg19 arg23 n <|
  ld arg19 (rSb (slot n)) h_S1x2048x256 fun w =>
  qStep arg9 arg14 harg14 n w 0 <| qStep arg9 arg14 harg14 n w 1 k

/-- `c` steps, from step `n`. -/
def loop {N : ℕ} (f : Fin N → P F → P F) : (c n : ℕ) → c + n = N → P F → P F
  | 0, _, _, k => k
  | c + 1, n, h, k => f ⟨n, by omega⟩ (loop f c (n + 1) (by omega) k)

/-! ## The rotary columns -/

def qrStep (wqr : Vec F S2048x512 .f32) (xb : Vec F S512x2048 .bf16) (b : Fin 2) (h : Fin 16) (k : P F) : P F :=
  ld arg15 (rQr b h) h_S1x512x32 fun _ =>
  st arg15 harg15 (rQr b h) h_S1x512x32 (pk_qr b h) (pQr wqr xb h) k

def rotStep (wqr : Vec F S2048x512 .f32) (wkr : Vec F S2048x32 .f32) (b : Fin 2) (k : P F) : P F :=
  ld arg9 (rRow b) h_S512x2048 fun xb =>
  loop (qrStep arg15 harg15 wqr xb b) 16 0 rfl <|
  ld arg16 (rKr b) h_S512x32 fun _ =>
  st arg16 harg16 (rKr b) h_S512x32 (pk_kr b) (k0_pay56 (k0_pay37 wkr) xb) k

def rot (k : P F) : P F :=
  ld arg5 (Rect.unit ![0, 0] S2048x512.size inb_S2048x512_S2048x512_0_0) h_S2048x512 fun wqr =>
  ld arg6 (Rect.unit ![0, 0] S2048x32.size inb_S2048x32_S2048x32_0_0) h_S2048x32 fun wkr =>
  rotStep arg9 arg15 harg15 arg16 harg16 wqr wkr 0 <| rotStep arg9 arg15 harg15 arg16 harg16 wqr wkr 1 k

/-! ## The exchanges' waits -/

def waits (k : P F) : P F :=
  .op (.waitDma2 (sm arg21 0) arg13 arg12 harg13.wordExact harg12.wordExact) fun _ =>
  .op (.waitDma2 (sm arg22 0) arg12 arg13 harg12.wordExact harg13.wordExact) fun _ =>
  .op (.waitDma2 (sm arg21 1) arg11 arg10 harg11.wordExact harg10.wordExact) fun _ =>
  .op (.waitDma2 (sm arg22 1) arg10 arg11 harg10.wordExact harg11.wordExact) fun _ => k

/-! ## Keys and values -/

/-- Tile `n` of the keys (`j = 0`, buffer `m`) or the values (`j = 1`) of batch `b`. -/
def kvHalf (m : Memref sig .tc .vmem S1024x2048 .bf16) (hm : m.IsWhole) (j b : Fin 2) (cs co : Vec F S512x128 .bf16) (n : Fin 4) (k : P F) : P F :=
  ld arg12 (rWt j n) h_S1x128x512 fun ws =>
  ld arg13 (rWt j n) h_S1x128x512 fun wo =>
  ld m (rTile b n) h_S512x512 fun _ =>
  st m hm (rTile b n) h_S512x512 (pk_tile b n) (k0_pay76 cs co ws wo) k

def kvTile (b : Fin 2) (cs co : Vec F S512x128 .bf16) (n : Fin 4) (k : P F) : P F :=
  kvHalf arg12 arg13 arg17 harg17 0 b cs co n <| kvHalf arg12 arg13 arg18 harg18 1 b cs co n k

def kvStep (b : Fin 2) (k : P F) : P F :=
  ld arg10 (rC b) h_S512x128 fun cs =>
  ld arg11 (rC b) h_S512x128 fun co =>
  loop (kvTile arg12 arg13 arg17 harg17 arg18 harg18 b cs co) 4 0 rfl k

/-! ## The heads -/

def woStart (n : Fin 16) (k : P F) : P F := cpStart (woStrip arg7 n) (wbSlot arg20 (slot n)) (sm arg24 (slot n)) k
def woWait (n : Fin 16) (k : P F) : P F := cpWait (woStrip arg7 n) (wbSlot arg20 (slot n)) (sm arg24 (slot n)) k

/-- Half `d` of the output rows of batch `b`: stored by the first head, added to by the others. -/
def outStep (h : Fin 16) (wo : Vec F S1x128x2048 .f32) (ob : FVec F S512x128 .bf16) (b d : Fin 2) (k : P F) : P F :=
  match h.val with
  | 0 => ld arg8 (rOut b d) h_S1x512x1024 fun _ => st arg8 harg8 (rOut b d) h_S1x512x1024 (pk_out b d) (pOut0 wo ob d) k
  | _ + 1 => ld arg8 (rOut b d) h_S1x512x1024 fun old => ld arg8 (rOut b d) h_S1x512x1024 fun _ =>
      st arg8 harg8 (rOut b d) h_S1x512x1024 (pk_out b d) (pOut wo ob d old) k

def headBatch (h : Fin 16) (wo : Vec F S1x128x2048 .f32) (b : Fin 2) (k : P F) : P F :=
  ld arg14 (rCol b h) h_S512x128 fun q =>
  ld arg17 (rCol b h) h_S512x128 fun kk =>
  ld arg15 (rQr b h) h_S1x512x32 fun qr =>
  ld arg16 (rKr b) h_S512x32 fun kr =>
  ld arg18 (rCol b h) h_S512x128 fun v =>
  outStep arg8 harg8 h wo (pOb q kk qr kr v) b 0 <| outStep arg8 harg8 h wo (pOb q kk qr kr v) b 1 k

def head (h : Fin 16) (k : P F) : P F :=
  (match next16 h with | some h' => fun k => woStart arg7 arg20 arg24 h' k | none => fun k => k) <|
  woWait arg7 arg20 arg24 h <|
  ld arg20 (rW (slot h)) h_S1x128x2048 fun wo =>
  headBatch arg8 harg8 arg14 arg15 arg16 arg17 arg18 h wo 0 <| headBatch arg8 harg8 arg14 arg15 arg16 arg17 arg18 h wo 1 k

/-! ## The prologue -/

def wStep (m : Memref sig .tc .vmem S128x2048 .f32) (j : Fin 2) (k : P F) : P F :=
  ld m (Rect.unit ![0, 0] S128x2048.size inb_S128x2048_S128x2048_0_0) h_S128x2048 fun w =>
  ld arg12 (rW j) h_S1x128x2048 fun _ =>
  st arg12 harg12 (rW j) h_S1x128x2048 (pk_w j) (k0_pay2 w) k

def cStep (wdkv : Vec F S2048x128 .f32) (b : Fin 2) (k : P F) : P F :=
  ld arg0 (rX b) h_S1x512x2048 fun x =>
  ld arg9 (rRow b) h_S512x2048 fun _ =>
  st arg9 harg9 (rRow b) h_S512x2048 (pk_row b) (k0_pay5 x) <|
  ld arg9 (rRow b) h_S512x2048 fun xb =>
  ld arg10 (rC b) h_S512x128 fun _ =>
  st arg10 harg10 (rC b) h_S512x128 (pk_c b) (k0_pay6 wdkv xb) k

def prologue (k : P F) : P F :=
  .op .deviceId fun d0 : Dev nD =>
  stripStart arg4 arg19 arg23 0 <|
  .op (.semSignal (Dev.tc (⟨k0_dev1 d0, k0_dev1_lt d0⟩ : Dev nD)) (SemArray.scalar (sig.barrier 0 rfl) : Sems sig S_).sem 1) fun _ =>
  .op (.semWait (SemArray.scalar (sig.barrier 0 rfl) : Sems sig S_).sem 1) fun _ =>
  wStep arg12 harg12 arg2 0 <| wStep arg12 harg12 arg3 1 <|
  .op (.enqueueDma arg12 (.remote (Dev.tc (⟨k0_dev2 d0, k0_dev2_lt d0⟩ : Dev nD)) arg13 (.dma (sm arg21 0))) (.dma (sm arg22 0)) harg12.wordExact harg13.wordExact ⟨⟨rfl, Or.inl rfl⟩, trivial⟩) fun _ =>
  ld arg1 (Rect.unit ![0, 0] S2048x128.size inb_S2048x128_S2048x128_0_0) h_S2048x128 fun wdkv =>
  cStep arg0 arg9 harg9 arg10 harg10 wdkv 0 <| cStep arg0 arg9 harg9 arg10 harg10 wdkv 1 <|
  .op (.enqueueDma arg10 (.remote (Dev.tc (⟨k0_dev3 d0, k0_dev3_lt d0⟩ : Dev nD)) arg11 (.dma (sm arg21 1))) (.dma (sm arg22 1)) harg10.wordExact harg11.wordExact ⟨⟨rfl, Or.inl rfl⟩, trivial⟩) fun _ => k

/-- The body. -/
def body : P F :=
  prologue arg0 arg1 arg2 arg3 arg4 arg9 harg9 arg10 harg10 arg11 harg11 arg12 harg12 arg13 harg13 arg19 arg21 arg22 arg23 <|
  loop (strip arg4 arg9 arg14 harg14 arg19 arg23) 8 0 rfl <|
  rot arg5 arg6 arg9 arg15 harg15 arg16 harg16 <|
  waits arg10 harg10 arg11 harg11 arg12 harg12 arg13 harg13 arg21 arg22 <|
  kvStep arg10 arg11 arg12 arg13 arg17 harg17 arg18 harg18 0 <|
  kvStep arg10 arg11 arg12 arg13 arg17 harg17 arg18 harg18 1 <|
  woStart arg7 arg20 arg24 0 <|
  loop (head arg7 arg8 harg8 arg14 arg15 arg16 arg17 arg18 arg20 arg24) 16 0 rfl <|
  .ret ⟨⟩

/-- The printed body is this program. -/
theorem body_eq :
    (cc0_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 arg22 arg23 arg24)
      = body arg0 arg1 arg2 arg3 arg4 arg5 arg6 arg7 arg8 harg8 arg9 harg9 arg10 harg10 arg11 harg11 arg12 harg12 arg13 harg13 arg14 harg14 arg15 harg15 arg16 harg16 arg17 harg17 arg18 harg18 arg19 arg20 arg21 arg22 arg23 arg24 := by
  chain_rfl

end

end Cert.KernelIdeal.Mla

end
-- ==== Proof.BodyI.Spec.lean ====
/- What each buffer of a device holds once its phase is done, from the device's blocks of the arguments and what its
   partner sends. -/
module

public import proofs.«01_k».proof.Proof.BodyI.Prog
public import proofs.«01_k».proof.Proof.Lib.Tiles
public import Idealize.ShloMosaic.Lib.ValueIdxCore
public import Idealize.ShloMosaic.Lib.Pipeline.ValueKit

@[expose] public section

noncomputable section

namespace Cert.KernelIdeal.Mla

open Idealize.ShloMosaic Idealize.SL.Sem Cert.KernelIdeal Cert.KernelIdeal.Gen Cert.Held

/-! ## The buffers cut into blocks -/

section

variable {B : Type}

theorem emb2 {n0 n1 : ℕ} {off size : Fin 2 → ℕ} {inb} (j : (Rect.unit (s := ⟨2, ![n0, n1]⟩) off size inb).shape.Idx) (a : Fin 2) :
    ((Rect.unit (s := ⟨2, ![n0, n1]⟩) off size inb).emb j a : ℕ) = off a + (j a : ℕ) := ValueKit.rect_emb_unit_val _ _ _ _ _

theorem emb_zero2 {n0 n1 : ℕ} {inb} (j : (Rect.unit (s := ⟨2, ![n0, n1]⟩) ![0, 0] ![n0, n1] inb).shape.Idx) :
    (Rect.unit (s := ⟨2, ![n0, n1]⟩) ![0, 0] ![n0, n1] inb).emb j = j := by
  funext a
  apply Fin.ext
  refine (emb2 j a).trans ?_
  fin_cases a
  · exact Nat.zero_add _
  · exact Nat.zero_add _

/-- Blocks of a matrix, the offsets given. -/
def tiles2 {n0 n1 : ℕ} (m0 m1 : ℕ) (off : B → Fin 2 → ℕ) (inb : ∀ b, ∀ a, off b a + (![m0, m1] : Fin 2 → ℕ) a ≤ (![n0, n1] : Fin 2 → ℕ) a)
    (hc : ∀ x y, x < n0 → y < n1 → ∃ b, (off b 0 ≤ x ∧ x < off b 0 + m0) ∧ (off b 1 ≤ y ∧ y < off b 1 + m1))
    (hi : ∀ b b' u u' v v', u < m0 → u' < m0 → v < m1 → v' < m1 → off b 0 + u = off b' 0 + u' → off b 1 + v = off b' 1 + v' → b = b') :
    Tiles ⟨2, ![n0, n1]⟩ B where
  r b := Rect.unit (s := ⟨2, ![n0, n1]⟩) (off b) ![m0, m1] (inb b)
  cover i := by
    obtain ⟨b, h0, h1⟩ := hc (i 0).val (i 1).val (i 0).isLt (i 1).isLt
    refine ⟨b, ValueIdx.ix2 ⟨(i 0).val - off b 0, by omega⟩ ⟨(i 1).val - off b 1, by omega⟩, ?_⟩
    funext a
    apply Fin.ext
    refine (emb2 _ a).trans ?_
    fin_cases a
    · show off b 0 + ((i 0).val - off b 0) = (i 0).val; omega
    · show off b 1 + ((i 1).val - off b 1) = (i 1).val; omega
  inj b b' j j' h := by
    have e0 := congrArg (fun i : (⟨2, ![n0, n1]⟩ : Shape).Idx => (i 0).val) h
    have e1 := congrArg (fun i : (⟨2, ![n0, n1]⟩ : Shape).Idx => (i 1).val) h
    exact hi b b' (j 0).val (j' 0).val (j 1).val (j' 1).val (j 0).isLt (j' 0).isLt (j 1).isLt (j' 1).isLt
      ((emb2 j 0).symm.trans (e0.trans (emb2 j' 0))) ((emb2 j 1).symm.trans (e1.trans (emb2 j' 1)))

theorem emb3 {n0 n1 n2 : ℕ} {off size : Fin 3 → ℕ} {inb} (j : (Rect.unit (s := ⟨3, ![n0, n1, n2]⟩) off size inb).shape.Idx) (a : Fin 3) :
    ((Rect.unit (s := ⟨3, ![n0, n1, n2]⟩) off size inb).emb j a : ℕ) = off a + (j a : ℕ) := ValueKit.rect_emb_unit_val _ _ _ _ _

/-- Blocks of an array of three axes, the offsets given. -/
def tiles3 {n0 n1 n2 : ℕ} (m0 m1 m2 : ℕ) (off : B → Fin 3 → ℕ) (inb : ∀ b, ∀ a, off b a + (![m0, m1, m2] : Fin 3 → ℕ) a ≤ (![n0, n1, n2] : Fin 3 → ℕ) a)
    (hc : ∀ x y z, x < n0 → y < n1 → z < n2 → ∃ b, (off b 0 ≤ x ∧ x < off b 0 + m0) ∧ (off b 1 ≤ y ∧ y < off b 1 + m1) ∧ (off b 2 ≤ z ∧ z < off b 2 + m2))
    (hi : ∀ b b' u u' v v' w w', u < m0 → u' < m0 → v < m1 → v' < m1 → w < m2 → w' < m2 → off b 0 + u = off b' 0 + u' → off b 1 + v = off b' 1 + v' → off b 2 + w = off b' 2 + w' → b = b') :
    Tiles ⟨3, ![n0, n1, n2]⟩ B where
  r b := Rect.unit (s := ⟨3, ![n0, n1, n2]⟩) (off b) ![m0, m1, m2] (inb b)
  cover i := by
    obtain ⟨b, h0, h1, h2⟩ := hc (i 0).val (i 1).val (i 2).val (i 0).isLt (i 1).isLt (i 2).isLt
    refine ⟨b, ValueIdx.ix3 ⟨(i 0).val - off b 0, by omega⟩ ⟨(i 1).val - off b 1, by omega⟩ ⟨(i 2).val - off b 2, by omega⟩, ?_⟩
    funext a
    apply Fin.ext
    refine (emb3 _ a).trans ?_
    fin_cases a
    · show off b 0 + ((i 0).val - off b 0) = (i 0).val; omega
    · show off b 1 + ((i 1).val - off b 1) = (i 1).val; omega
    · show off b 2 + ((i 2).val - off b 2) = (i 2).val; omega
  inj b b' j j' h := by
    have e0 := congrArg (fun i : (⟨3, ![n0, n1, n2]⟩ : Shape).Idx => (i 0).val) h
    have e1 := congrArg (fun i : (⟨3, ![n0, n1, n2]⟩ : Shape).Idx => (i 1).val) h
    have e2 := congrArg (fun i : (⟨3, ![n0, n1, n2]⟩ : Shape).Idx => (i 2).val) h
    exact hi b b' (j 0).val (j' 0).val (j 1).val (j' 1).val (j 2).val (j' 2).val (j 0).isLt (j' 0).isLt (j 1).isLt (j' 1).isLt (j 2).isLt (j' 2).isLt
      ((emb3 j 0).symm.trans (e0.trans (emb3 j' 0))) ((emb3 j 1).symm.trans (e1.trans (emb3 j' 1))) ((emb3 j 2).symm.trans (e2.trans (emb3 j' 2)))

end

/-- Query strips. -/
def tStrip : Tiles S1024x2048 (Fin 2 × Fin 8) :=
  tiles2 512 256 (fun p => ![512 * p.1.val, 256 * p.2.val]) (fun p => inb_strip p.1 p.2)
    (fun x y hx hy => ⟨(⟨x / 512, by omega⟩, ⟨y / 256, by omega⟩), by simp; omega⟩)
    (fun b b' u u' v v' _ _ _ _ h h' => Prod.ext (Fin.ext (by simp at h h'; omega)) (Fin.ext (by simp at h h'; omega)))

/-- Key and value tiles. -/
def tTile : Tiles S1024x2048 (Fin 2 × Fin 4) :=
  tiles2 512 512 (fun p => ![512 * p.1.val, 512 * p.2.val]) (fun p => inb_tile p.1 p.2)
    (fun x y hx hy => ⟨(⟨x / 512, by omega⟩, ⟨y / 512, by omega⟩), by simp; omega⟩)
    (fun b b' u u' v v' _ _ _ _ h h' => Prod.ext (Fin.ext (by simp at h h'; omega)) (Fin.ext (by simp at h h'; omega)))

/-- A batch's rows. -/
def tRow : Tiles S1024x2048 (Fin 2) :=
  tiles2 512 2048 (fun b => ![512 * b.val, 0]) inb_row
    (fun x y hx hy => ⟨⟨x / 512, by omega⟩, by simp; omega⟩)
    (fun b b' u u' v v' _ _ _ _ h h' => Fin.ext (by simp at h h'; omega))

def tC : Tiles S1024x128 (Fin 2) :=
  tiles2 512 128 (fun b => ![512 * b.val, 0]) inb_c
    (fun x y hx hy => ⟨⟨x / 512, by omega⟩, by simp; omega⟩)
    (fun b b' u u' v v' _ _ _ _ h h' => Fin.ext (by simp at h h'; omega))

def tKr : Tiles S1024x32 (Fin 2) :=
  tiles2 512 32 (fun b => ![512 * b.val, 0]) inb_kr
    (fun x y hx hy => ⟨⟨x / 512, by omega⟩, by simp; omega⟩)
    (fun b b' u u' v v' _ _ _ _ h h' => Fin.ext (by simp at h h'; omega))

/-- A head's rotary queries of one batch. -/
def tQr : Tiles S16x1024x32 (Fin 2 × Fin 16) :=
  tiles3 1 512 32 (fun p => ![p.2.val, 512 * p.1.val, 0]) (fun p => inb_qr p.1 p.2)
    (fun x y z hx hy hz => ⟨(⟨y / 512, by omega⟩, ⟨x, by omega⟩), by simp; omega⟩)
    (fun b b' u u' v v' w w' _ _ _ _ _ _ h h' h'' => Prod.ext (Fin.ext (by simp at h h' h''; omega)) (Fin.ext (by simp at h h' h''; omega)))

/-- The two weights side by side. -/
def tW : Tiles S2x128x2048 (Fin 2) :=
  tiles3 1 128 2048 (fun j => ![j.val, 0, 0]) inb_w
    (fun x y z hx hy hz => ⟨⟨x, by omega⟩, by simp; omega⟩)
    (fun b b' u u' v v' w w' _ _ _ _ _ _ h h' h'' => Fin.ext (by simp at h h' h''; omega))

/-- The halves of the output's columns, batch by batch. -/
def tOut : Tiles S2x512x2048 (Fin 2 × Fin 2) :=
  tiles3 1 512 1024 (fun p => ![p.1.val, 0, 1024 * p.2.val]) (fun p => inb_out p.1 p.2)
    (fun x y z hx hy hz => ⟨(⟨x, by omega⟩, ⟨z / 1024, by omega⟩), by simp; omega⟩)
    (fun b b' u u' v v' w w' _ _ _ _ _ _ h h' h'' => Prod.ext (Fin.ext (by simp at h h' h''; omega)) (Fin.ext (by simp at h h' h''; omega)))

variable {F : FTy → Type} [FloatOps F] [Named F]

/-! ## What the buffers come to hold -/

/-- A batch's input rows, narrowed. -/
def xbB (X : Vec F S2x512x2048 .f32) (b : Fin 2) : Vec F S512x2048 .bf16 := k0_pay5 (fun j => X ((rX b).emb j))
def XB (X : Vec F S2x512x2048 .f32) : Vec F S1024x2048 .bf16 := tRow.val (xbB X)

/-- The device's share of the latent. -/
def csB (X : Vec F S2x512x2048 .f32) (WD : Vec F S2048x128 .f32) (b : Fin 2) : Vec F S512x128 .bf16 := k0_pay6 WD (xbB X b)
def CS (X : Vec F S2x512x2048 .f32) (WD : Vec F S2048x128 .f32) : Vec F S1024x128 .bf16 := tC.val (csB X WD)

/-- The device's rows of the key and the value weights. -/
def wsB (WK WV : Vec F S128x2048 .f32) (j : Fin 2) : Vec F S1x128x2048 .bf16 := k0_pay2 (if j = 0 then WK else WV)
def WS (WK WV : Vec F S128x2048 .f32) : Vec F S2x128x2048 .bf16 := tW.val (wsB WK WV)

/-- A strip of the query weights, as the buffer holds it. -/
def wqS (WQ : Vec F S2048x2048 .f32) (n : Fin 8) : Vec F S1x2048x256 .f32 :=
  shapeCast S1x2048x256 (fun j : S2048x256.Idx => WQ ((rWq n).emb j)) (by decide)
def qB (X : Vec F S2x512x2048 .f32) (WQ : Vec F S2048x2048 .f32) (p : Fin 2 × Fin 8) : Vec F S512x256 .bf16 := k0_pay10 (wqS WQ p.2) (xbB X p.1)
def QQ (X : Vec F S2x512x2048 .f32) (WQ : Vec F S2048x2048 .f32) : Vec F S1024x2048 .bf16 := tStrip.val (qB X WQ)

def qrB (X : Vec F S2x512x2048 .f32) (WR : Vec F S2048x512 .f32) (p : Fin 2 × Fin 16) : Vec F S1x512x32 .bf16 := pQr WR (xbB X p.1) p.2
def QR (X : Vec F S2x512x2048 .f32) (WR : Vec F S2048x512 .f32) : Vec F S16x1024x32 .bf16 := tQr.val (qrB X WR)

def krB (X : Vec F S2x512x2048 .f32) (WE : Vec F S2048x32 .f32) (b : Fin 2) : Vec F S512x32 .bf16 := k0_pay56 (k0_pay37 WE) (xbB X b)
def KR (X : Vec F S2x512x2048 .f32) (WE : Vec F S2048x32 .f32) : Vec F S1024x32 .bf16 := tKr.val (krB X WE)

/-- Keys (`j = 0`) and values (`j = 1`), from both devices' latents and weights. -/
def kvB (cs co : Vec F S1024x128 .bf16) (ws wo : Vec F S2x128x2048 .bf16) (j : Fin 2) (p : Fin 2 × Fin 4) : Vec F S512x512 .bf16 :=
  k0_pay76 (fun i => cs ((rC p.1).emb i)) (fun i => co ((rC p.1).emb i)) (fun i => ws ((rWt j p.2).emb i)) (fun i => wo ((rWt j p.2).emb i))
def KV (cs co : Vec F S1024x128 .bf16) (ws wo : Vec F S2x128x2048 .bf16) (j : Fin 2) : Vec F S1024x2048 .bf16 := tTile.val (kvB cs co ws wo j)

/-- A head's rows of the output weights, as the buffer holds them. -/
def woS (WO : Vec F S2048x2048 .f32) (h : Fin 16) : Vec F S1x128x2048 .f32 :=
  shapeCast S1x128x2048 (fun j : S128x2048.Idx => WO ((rWo h).emb j)) (by decide)

/-- One head of one batch. -/
def obB (Q K V : Vec F S1024x2048 .bf16) (QR : Vec F S16x1024x32 .bf16) (KR : Vec F S1024x32 .bf16) (b : Fin 2) (h : Fin 16) : FVec F S512x128 .bf16 :=
  pOb (fun j => Q ((rCol b h).emb j)) (fun j => K ((rCol b h).emb j)) (fun j => QR ((rQr b h).emb j)) (fun j => KR ((rKr b).emb j)) (fun j => V ((rCol b h).emb j))

/-- A block of the output after the heads up to `h`. -/
def outB (WO : Vec F S2048x2048 .f32) (ob : Fin 2 → Fin 16 → FVec F S512x128 .bf16) : ℕ → Fin 2 × Fin 2 → Vec F S1x512x1024 .f32
  | 0, p => pOut0 (woS WO 0) (ob p.1 0) p.2
  | h + 1, p => pOut (woS WO (Fin.ofNat 16 (h + 1))) (ob p.1 (Fin.ofNat 16 (h + 1))) p.2 (outB WO ob h p)

/-- The output of a device. -/
def OUT (X : Vec F S2x512x2048 .f32) (WQ : Vec F S2048x2048 .f32) (WR : Vec F S2048x512 .f32) (WE : Vec F S2048x32 .f32) (WO : Vec F S2048x2048 .f32)
    (cs co : Vec F S1024x128 .bf16) (ws wo : Vec F S2x128x2048 .bf16) : Vec F S2x512x2048 .f32 :=
  tOut.val (outB WO (obB (QQ X WQ) (KV cs co ws wo 0) (KV cs co ws wo 1) (QR X WR) (KR X WE)) 15)

end Cert.KernelIdeal.Mla

end
-- ==== Proof.BodyI.Phases.lean ====
/- The phases of the body, each run from the buffers it reads to the buffers it fills. -/
module

public import proofs.«01_k».proof.Proof.BodyI.Spec

@[expose] public section

set_option synthInstance.maxSize 4096

noncomputable section

namespace Cert.KernelIdeal.Mla

open Idealize.ShloMosaic Idealize.ShloMosaic.Transfers
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Held

variable {F : FTy → Type} [FloatOps F] [Named F] {U : Type} [URA U] [CountersIn U]

local notation "𝕄" => MT nD τ sig Unit (Elt F) ℕ U ℕ

variable {defs : Defs nD τ sig (Elt F) Λ₀} (𝒱 : Variants) (c : Dev nD) {Q : PUnit → sProp (MT nD τ sig Unit (Elt F) ℕ U ℕ)}

/-- The rest of the program runs. -/
abbrev run (defs : Defs nD τ sig (Elt F) Λ₀) (𝒱 : Variants) (c : Dev nD) (Q : PUnit → sProp (MT nD τ sig Unit (Elt F) ℕ U ℕ)) (k : P F) :
    sProp (MT nD τ sig Unit (Elt F) ℕ U ℕ) :=
  wp frame (wpE defs 𝒱 (c : Thread nD τ) none) Set.univ k Q

variable (arg0 : Memref sig .tc .vmem S2x512x2048 .f32) (arg1 : Memref sig .tc .vmem S2048x128 .f32) (arg2 : Memref sig .tc .vmem S128x2048 .f32) (arg3 : Memref sig .tc .vmem S128x2048 .f32) (arg4 : Memref sig .tc .hbm S2048x2048 .f32) (arg5 : Memref sig .tc .vmem S2048x512 .f32) (arg6 : Memref sig .tc .vmem S2048x32 .f32) (arg7 : Memref sig .tc .hbm S2048x2048 .f32) (arg8 : Memref sig .tc .vmem S2x512x2048 .f32) (harg8 : arg8.IsWhole) (arg9 : Memref sig .tc .vmem S1024x2048 .bf16) (harg9 : arg9.IsWhole) (arg10 : Memref sig .tc .vmem S1024x128 .bf16) (harg10 : arg10.IsWhole) (arg11 : Memref sig .tc .vmem S1024x128 .bf16) (harg11 : arg11.IsWhole) (arg12 : Memref sig .tc .vmem S2x128x2048 .bf16) (harg12 : arg12.IsWhole) (arg13 : Memref sig .tc .vmem S2x128x2048 .bf16) (harg13 : arg13.IsWhole) (arg14 : Memref sig .tc .vmem S1024x2048 .bf16) (harg14 : arg14.IsWhole) (arg15 : Memref sig .tc .vmem S16x1024x32 .bf16) (harg15 : arg15.IsWhole) (arg16 : Memref sig .tc .vmem S1024x32 .bf16) (harg16 : arg16.IsWhole) (arg17 : Memref sig .tc .vmem S1024x2048 .bf16) (harg17 : arg17.IsWhole) (arg18 : Memref sig .tc .vmem S1024x2048 .bf16) (harg18 : arg18.IsWhole) (arg19 : Memref sig .tc .vmem S2x2048x256 .f32) (arg20 : Memref sig .tc .vmem S2x128x2048 .f32) (arg21 : DmaSems sig S2) (arg22 : DmaSems sig S2) (arg23 : DmaSems sig S2) (arg24 : DmaSems sig S2)

/-- Every block. -/
abbrev allB {B : Type} : B → Prop := fun _ => True

variable (X : Vec F S2x512x2048 .f32)

/-! ## Queries -/

theorem qStep_run (WQ : Vec F S2048x2048 .f32) (n : Fin 8) (b : Fin 2) (p : Fin 2 × Fin 8 → Prop) (k : P F) :
    (iprop(held c arg9 (tRow.val (xbB X)) (tRow.on allB) ∗ held c arg14 (tStrip.val (qB X WQ)) (tStrip.on p)
      ∗ ((held c arg9 (tRow.val (xbB X)) (tRow.on allB) ∗ held c arg14 (tStrip.val (qB X WQ)) (tStrip.on fun x => x = (b, n) ∨ p x)) -∗ run defs 𝒱 c Q k)) : sProp 𝕄)
      ⊢ run defs 𝒱 c Q (qStep arg9 arg14 harg14 n (wqS WQ n) b k) := by
  unfold qStep
  iintro ⟨H9, H14, Hk⟩
  iapply (tile_load 𝒱 c tRow (m := arg9) (w := xbB X) (p := allB) b trivial) $$ H9
  iintro H9
  iapply (held_skip 𝒱 c (m := arg14)) $$ H14
  iintro H14
  iapply (tile_store 𝒱 c tStrip (m := arg14) (w := qB X WQ) (w' := qB X WQ) (p := p) (p' := fun x => x = (b, n) ∨ p x) (b, n) rfl (fun b' h => h.imp_right fun h => ⟨h, rfl⟩)) $$ H14
  iintro H14
  iapply Hk
  isplitl [H9]; · iexact H9
  iexact H14

/-- A slot's share of the array its copies read. -/
def qsh (k : Fin 2) : PosShare TreeShare := if k = 0 then fullShare.left else fullShare.right

/-- Some record of the waits made, nothing owed. -/
def owesNone : sProp 𝕄 := iprop(∃ W : Waits sig Unit, owes (c : Thread nD τ) 0 W)

section Strips

variable (g : Buf (Elt F) (arg4.view.loc (c : Thread nD τ)))

def stripFree (k : Fin 2) : sProp 𝕄 := slotFree c arg19 (rSb k) (sm arg23 k) arg4 (qsh k) g

def stripFly (n : Fin 8) : sProp 𝕄 :=
  slotFly c arg19 (rSb (slot n)) (sm arg23 (slot n)) arg4 (qsh (slot n)) g (sbSlot arg19 (slot n)).view.dmaCredit (rWq n)
    (by decide : S2048x256.ShapeCasts S1x2048x256)

theorem stripStart_run (n : Fin 8) (k : P F) :
    (iprop(stripFree c arg4 arg19 arg23 g (slot n) ∗ (stripFly c arg4 arg19 arg23 g n -∗ run defs 𝒱 c Q k)) : sProp 𝕄)
      ⊢ run defs 𝒱 c Q (stripStart arg4 arg19 arg23 n k) := by
  unfold stripStart stripFree stripFly
  iintro ⟨H, Hk⟩
  iapply (slot_start 𝒱 c (m := arg19) (r := rSb (slot n)) (rs := rWq n) (ms := arg4) (g := g) rfl (View.dmaCredit_pos _ (by decide : 0 < S2048x256.numel))) $$ H
  iexact Hk

/-- Before strip `m`: its copy is under way (none after the last), the other slot free, the strips before it done. -/
def stripI (m : ℕ) : sProp 𝕄 :=
  iprop(owesNone c ∗ (if h : m < 8 then stripFly c arg4 arg19 arg23 g ⟨m, h⟩ else stripFree c arg4 arg19 arg23 g (slot m))
    ∗ stripFree c arg4 arg19 arg23 g (slot (m + 1))
    ∗ held c arg9 (tRow.val (xbB X)) (tRow.on allB)
    ∗ held c arg14 (tStrip.val (qB X (arg4.view.read (Elt F) g))) (tStrip.on fun p => p.2.val < m))

theorem slot_next (m : ℕ) : slot (m + 1 + 1) = slot m := Fin.ext (by show (m + 1 + 1) % 2 = m % 2; omega)

theorem strip_run (n : Fin 8) (k : P F) :
    (iprop(stripI c arg4 arg9 arg14 arg19 arg23 X g n.val ∗ (stripI c arg4 arg9 arg14 arg19 arg23 X g (n.val + 1) -∗ run defs 𝒱 c Q k)) : sProp 𝕄)
      ⊢ run defs 𝒱 c Q (strip arg4 arg9 arg14 harg14 arg19 arg23 n k) := by
  have hrest : ∀ (R : sProp 𝕄), (iprop(owesNone c ∗ stripFly c arg4 arg19 arg23 g n ∗ R
      ∗ held c arg9 (tRow.val (xbB X)) (tRow.on allB)
      ∗ held c arg14 (tStrip.val (qB X (arg4.view.read (Elt F) g))) (tStrip.on fun p => p.2.val < n.val)
      ∗ (iprop(owesNone c ∗ R ∗ stripFree c arg4 arg19 arg23 g (slot n)
        ∗ held c arg9 (tRow.val (xbB X)) (tRow.on allB)
        ∗ held c arg14 (tStrip.val (qB X (arg4.view.read (Elt F) g))) (tStrip.on fun p => p.2.val < n.val + 1)) -∗ run defs 𝒱 c Q k)) : sProp 𝕄)
      ⊢ run defs 𝒱 c Q (stripWait arg4 arg19 arg23 n <| ld arg19 (rSb (slot n)) h_S1x2048x256 fun w =>
          qStep arg9 arg14 harg14 n w 0 <| qStep arg9 arg14 harg14 n w 1 k) := by
    intro R
    unfold owesNone stripFly stripWait stripFree
    iintro ⟨⟨%W, HO⟩, HF, HR, H9, H14, Hk⟩
    iapply (slot_wait 𝒱 c (m := arg19) (r := rSb (slot n)) (rs := rWq n) (ms := arg4) (g := g) rfl) $$ [HF HO]
    · isplitl [HF]; · iexact HF
      iexact HO
    iintro ⟨⟨Hd, Hv, Hs⟩, HO⟩
    iapply (slot_load 𝒱 c (m := arg19) (r := rSb (slot n))) $$ Hd
    iintro Hd
    iapply (qStep_run 𝒱 c arg9 arg14 harg14 X (arg4.view.read (Elt F) g) n 0 (fun p => p.2.val < n.val) _)
    isplitl [H9]; · iexact H9
    isplitl [H14]; · iexact H14
    iintro ⟨H9, H14⟩
    iapply (qStep_run 𝒱 c arg9 arg14 harg14 X (arg4.view.read (Elt F) g) n 1 _ _)
    isplitl [H9]; · iexact H9
    isplitl [H14]; · iexact H14
    iintro ⟨H9, H14⟩
    iapply Hk
    isplitl [HO]; · iexists _; iexact HO
    isplitl [HR]; · iexact HR
    isplitl [Hd Hv Hs]
    · unfold slotFree
      isplitl [Hd]; · iapply (slotHeld_any c); iexact Hd
      isplitl [Hv]; · iexact Hv
      iexact Hs
    isplitl [H9]; · iexact H9
    iapply (held_mono c ?_) $$ H14
    rintro i ⟨⟨b, m⟩, hm, hj⟩
    refine ⟨⟨(b, m), ?_, hj⟩, rfl⟩
    by_cases e : m = n
    · subst e
      fin_cases b
      · right; left; rfl
      · left; rfl
    · right; right
      have : m.val ≠ n.val := fun h => e (Fin.ext h)
      have hm : m.val < n.val + 1 := hm
      show m.val < n.val
      omega
  unfold strip stripI
  rw [dif_pos n.isLt]
  by_cases h : n.val + 1 < 8
  · rw [show next8 n = some ⟨n.val + 1, h⟩ from dif_pos h, dif_pos h]
    iintro ⟨⟨HO, HF, HR, H9, H14⟩, Hk⟩
    iapply (stripStart_run 𝒱 c arg4 arg19 arg23 g ⟨n.val + 1, h⟩ _)
    isplitl [HR]; · iexact HR
    iintro HR
    iapply (hrest _)
    isplitl [HO]; · iexact HO
    isplitl [HF]; · iexact HF
    isplitl [HR]; · iexact HR
    isplitl [H9]; · iexact H9
    isplitl [H14]; · iexact H14
    rw [slot_next]
    iexact Hk
  · rw [show next8 n = none from dif_neg h, dif_neg h]
    iintro ⟨⟨HO, HF, HR, H9, H14⟩, Hk⟩
    iapply (hrest _)
    isplitl [HO]; · iexact HO
    isplitl [HF]; · iexact HF
    isplitl [HR]; · iexact HR
    isplitl [H9]; · iexact H9
    isplitl [H14]; · iexact H14
    rw [slot_next]
    iexact Hk

theorem strips_run (k : P F) :
    (iprop(stripI c arg4 arg9 arg14 arg19 arg23 X g 0 ∗ (stripI c arg4 arg9 arg14 arg19 arg23 X g 8 -∗ run defs 𝒱 c Q k)) : sProp 𝕄)
      ⊢ run defs 𝒱 c Q (loop (strip arg4 arg9 arg14 harg14 arg19 arg23) 8 0 rfl k) :=
  loop_inv (run defs 𝒱 c Q) (strip arg4 arg9 arg14 harg14 arg19 arg23) (loop _) (fun _ _ _ => rfl) (fun _ _ _ _ => rfl) _
    (fun n k => strip_run 𝒱 c arg4 arg9 arg14 harg14 arg19 arg23 X g n k) 8 0 rfl k

end Strips

/-! ## The rotary columns -/

theorem rotStep_run (WR : Vec F S2048x512 .f32) (WE : Vec F S2048x32 .f32) (b : Fin 2) (p : Fin 2 × Fin 16 → Prop) (p' : Fin 2 → Prop) (k : P F) :
    (iprop(held c arg9 (tRow.val (xbB X)) (tRow.on allB) ∗ held c arg15 (tQr.val (qrB X WR)) (tQr.on p) ∗ held c arg16 (tKr.val (krB X WE)) (tKr.on p')
      ∗ (iprop(held c arg9 (tRow.val (xbB X)) (tRow.on allB) ∗ held c arg15 (tQr.val (qrB X WR)) (tQr.on fun x => x.1 = b ∨ p x)
        ∗ held c arg16 (tKr.val (krB X WE)) (tKr.on fun x => x = b ∨ p' x)) -∗ run defs 𝒱 c Q k)) : sProp 𝕄)
      ⊢ run defs 𝒱 c Q (rotStep arg9 arg15 harg15 arg16 harg16 WR WE b k) := by
  unfold rotStep
  iintro ⟨H9, H15, H16, Hk⟩
  iapply (tile_load 𝒱 c tRow (m := arg9) (w := xbB X) (p := allB) b trivial) $$ H9
  iintro H9
  iapply (loop_inv (run defs 𝒱 c Q) (qrStep arg15 harg15 WR (xbB X b) b) (loop _) (fun _ _ _ => rfl) (fun _ _ _ _ => rfl)
    (fun m => held c arg15 (tQr.val (qrB X WR)) (tQr.on fun x => (x.1 = b ∧ x.2.val < m) ∨ p x)) ?_ 16 0 rfl _)
  · intro n k
    unfold qrStep
    iintro ⟨H, Hk⟩
    iapply (held_skip 𝒱 c (m := arg15)) $$ H
    iintro H
    iapply (tile_store 𝒱 c tQr (m := arg15) (w := qrB X WR) (w' := qrB X WR) (p := fun x => (x.1 = b ∧ x.2.val < n.val) ∨ p x)
      (p' := fun x => (x.1 = b ∧ x.2.val < n.val + 1) ∨ p x) (b, n) rfl ?_) $$ H
    · rintro ⟨b', m⟩ h
      by_cases e : (b', m) = (b, n)
      · exact Or.inl e
      · refine Or.inr ⟨h.imp_left fun h => ⟨h.1, ?_⟩, rfl⟩
        have h1 : b' = b := h.1
        have h2 : m.val < n.val + 1 := h.2
        have : m.val ≠ n.val := fun hn => e (by rw [h1, Fin.ext hn])
        show m.val < n.val
        omega
    iexact Hk
  isplitl [H15]
  · iapply (held_mono c ?_) $$ H15
    rintro i ⟨x, hx, hj⟩
    exact ⟨⟨x, hx.resolve_left fun h => absurd h.2 (Nat.not_lt_zero _), hj⟩, rfl⟩
  iintro H15
  iapply (held_skip 𝒱 c (m := arg16)) $$ H16
  iintro H16
  iapply (tile_store 𝒱 c tKr (m := arg16) (w := krB X WE) (w' := krB X WE) (p := p') (p' := fun x => x = b ∨ p' x) b rfl
    (fun b' h => h.imp_right fun h => ⟨h, rfl⟩)) $$ H16
  iintro H16
  iapply Hk
  isplitl [H9]; · iexact H9
  isplitl [H15]
  · iapply (held_mono c ?_) $$ H15
    rintro i ⟨x, hx, hj⟩
    exact ⟨⟨x, hx.imp_left fun h => ⟨h, x.2.isLt⟩, hj⟩, rfl⟩
  iexact H16

theorem rot_run (WR : Vec F S2048x512 .f32) (WE : Vec F S2048x32 .f32) (k : P F) :
    (iprop(held c arg5 WR allB ∗ held c arg6 WE allB ∗ held c arg9 (tRow.val (xbB X)) (tRow.on allB)
      ∗ held c arg15 (tQr.val (qrB X WR)) (tQr.on fun _ => False) ∗ held c arg16 (tKr.val (krB X WE)) (tKr.on fun _ => False)
      ∗ (iprop(held c arg5 WR allB ∗ held c arg6 WE allB ∗ held c arg9 (tRow.val (xbB X)) (tRow.on allB)
        ∗ held c arg15 (QR X WR) allB ∗ held c arg16 (KR X WE) allB) -∗ run defs 𝒱 c Q k)) : sProp 𝕄)
      ⊢ run defs 𝒱 c Q (rot arg5 arg6 arg9 arg15 harg15 arg16 harg16 k) := by
  unfold rot QR KR
  iintro ⟨H5, H6, H9, H15, H16, Hk⟩
  iapply (held_load 𝒱 c (m := arg5) (D := allB) (fun _ => trivial)) $$ H5
  iintro H5
  iapply (held_load 𝒱 c (m := arg6) (D := allB) (fun _ => trivial)) $$ H6
  iintro H6
  rw [show (fun j => WR ((Rect.unit ![0, 0] S2048x512.size inb_S2048x512_S2048x512_0_0).emb j)) = WR from funext fun j => congrArg WR (emb_zero2 _)]
  rw [show (fun j => WE ((Rect.unit ![0, 0] S2048x32.size inb_S2048x32_S2048x32_0_0).emb j)) = WE from funext fun j => congrArg WE (emb_zero2 _)]
  iapply (rotStep_run 𝒱 c arg9 arg15 harg15 arg16 harg16 X WR WE 0 _ _ _)
  isplitl [H9]; · iexact H9
  isplitl [H15]; · iexact H15
  isplitl [H16]; · iexact H16
  iintro ⟨H9, H15, H16⟩
  iapply (rotStep_run 𝒱 c arg9 arg15 harg15 arg16 harg16 X WR WE 1 _ _ _)
  isplitl [H9]; · iexact H9
  isplitl [H15]; · iexact H15
  isplitl [H16]; · iexact H16
  iintro ⟨H9, H15, H16⟩
  iapply Hk
  isplitl [H5]; · iexact H5
  isplitl [H6]; · iexact H6
  isplitl [H9]; · iexact H9
  isplitl [H15]
  · iapply (tile_all c tQr (w := qrB X WR) (p := fun x => x.1 = 1 ∨ x.1 = 0 ∨ False) ?_) $$ H15
    rintro ⟨b, h⟩
    fin_cases b
    · right; left; rfl
    · left; rfl
  · iapply (tile_all c tKr (w := krB X WE) (p := fun x => x = 1 ∨ x = 0 ∨ False) ?_) $$ H16
    intro b
    fin_cases b
    · right; left; rfl
    · left; rfl

/-! ## Keys and values -/

theorem kvHalf_run (m : Memref sig .tc .vmem S1024x2048 .bf16) (hm : m.IsWhole) (j b : Fin 2) (cs co : Vec F S1024x128 .bf16)
    (ws wo : Vec F S2x128x2048 .bf16) (n : Fin 4) (p : Fin 2 × Fin 4 → Prop) (k : P F) :
    (iprop(held c arg12 ws allB ∗ held c arg13 wo allB ∗ held c m (tTile.val (kvB cs co ws wo j)) (tTile.on p)
      ∗ (iprop(held c arg12 ws allB ∗ held c arg13 wo allB ∗ held c m (tTile.val (kvB cs co ws wo j)) (tTile.on fun x => x = (b, n) ∨ p x)) -∗ run defs 𝒱 c Q k)) : sProp 𝕄)
      ⊢ run defs 𝒱 c Q (kvHalf arg12 arg13 m hm j b (fun i => cs ((rC b).emb i)) (fun i => co ((rC b).emb i)) n k) := by
  unfold kvHalf
  iintro ⟨H12, H13, Hm, Hk⟩
  iapply (held_load 𝒱 c (m := arg12) (D := allB) (fun _ => trivial)) $$ H12
  iintro H12
  iapply (held_load 𝒱 c (m := arg13) (D := allB) (fun _ => trivial)) $$ H13
  iintro H13
  iapply (held_skip 𝒱 c (m := m)) $$ Hm
  iintro Hm
  iapply (tile_store 𝒱 c tTile (m := m) (w := kvB cs co ws wo j) (w' := kvB cs co ws wo j) (p := p) (p' := fun x => x = (b, n) ∨ p x) (b, n) rfl
    (fun b' h => h.imp_right fun h => ⟨h, rfl⟩)) $$ Hm
  iintro Hm
  iapply Hk
  isplitl [H12]; · iexact H12
  isplitl [H13]; · iexact H13
  iexact Hm

/-- Before tile `n` of batch `b`. -/
def kvI (cs co : Vec F S1024x128 .bf16) (ws wo : Vec F S2x128x2048 .bf16) (b : Fin 2) (p : Fin 2 × Fin 4 → Prop) (n : ℕ) : sProp 𝕄 :=
  iprop(held c arg12 ws allB ∗ held c arg13 wo allB
    ∗ held c arg17 (tTile.val (kvB cs co ws wo 0)) (tTile.on fun x => (x.1 = b ∧ x.2.val < n) ∨ p x)
    ∗ held c arg18 (tTile.val (kvB cs co ws wo 1)) (tTile.on fun x => (x.1 = b ∧ x.2.val < n) ∨ p x))

theorem kv_next {b : Fin 2} {n : Fin 4} {p : Fin 2 × Fin 4 → Prop} {m : Memref sig .tc .vmem S1024x2048 .bf16} {w : ∀ x, (tTile.r x).shape.Idx → Elt F .bf16} :
    (held c m (tTile.val w) (tTile.on fun x => x = (b, n) ∨ ((x.1 = b ∧ x.2.val < n.val) ∨ p x)) : sProp 𝕄)
      ⊢ held c m (tTile.val w) (tTile.on fun x => (x.1 = b ∧ x.2.val < n.val + 1) ∨ p x) := by
  refine held_mono c ?_
  rintro i ⟨⟨b', k⟩, h, hj⟩
  refine ⟨⟨(b', k), ?_, hj⟩, rfl⟩
  by_cases e : k = n
  · subst e
    rcases h with h | h
    · exact Or.inl (by rw [← h.1])
    · exact Or.inr (Or.inr h)
  · refine Or.inr (h.imp_left fun h => ⟨h.1, ?_⟩)
    have h2 : k.val < n.val + 1 := h.2
    have : k.val ≠ n.val := fun hn => e (Fin.ext hn)
    show k.val < n.val
    omega

theorem kvTile_run (cs co : Vec F S1024x128 .bf16) (ws wo : Vec F S2x128x2048 .bf16) (b : Fin 2) (p : Fin 2 × Fin 4 → Prop) (n : Fin 4) (k : P F) :
    (iprop(kvI c arg12 arg13 arg17 arg18 cs co ws wo b p n.val ∗ (kvI c arg12 arg13 arg17 arg18 cs co ws wo b p (n.val + 1) -∗ run defs 𝒱 c Q k)) : sProp 𝕄)
      ⊢ run defs 𝒱 c Q (kvTile arg12 arg13 arg17 harg17 arg18 harg18 b (fun i => cs ((rC b).emb i)) (fun i => co ((rC b).emb i)) n k) := by
  unfold kvTile kvI
  iintro ⟨⟨H12, H13, H17, H18⟩, Hk⟩
  iapply (kvHalf_run 𝒱 c arg12 arg13 arg17 harg17 0 b cs co ws wo n _ _)
  isplitl [H12]; · iexact H12
  isplitl [H13]; · iexact H13
  isplitl [H17]; · iexact H17
  iintro ⟨H12, H13, H17⟩
  iapply (kvHalf_run 𝒱 c arg12 arg13 arg18 harg18 1 b cs co ws wo n _ _)
  isplitl [H12]; · iexact H12
  isplitl [H13]; · iexact H13
  isplitl [H18]; · iexact H18
  iintro ⟨H12, H13, H18⟩
  iapply Hk
  isplitl [H12]; · iexact H12
  isplitl [H13]; · iexact H13
  isplitl [H17]
  · iapply (kv_next c (w := kvB cs co ws wo 0) (p := p) (b := b) (n := n)) $$ H17
  · iapply (kv_next c (w := kvB cs co ws wo 1) (p := p) (b := b) (n := n)) $$ H18

theorem kvStep_run (cs co : Vec F S1024x128 .bf16) (ws wo : Vec F S2x128x2048 .bf16) (b : Fin 2) (p : Fin 2 × Fin 4 → Prop) (k : P F) :
    (iprop(held c arg10 cs allB ∗ held c arg11 co allB ∗ kvI c arg12 arg13 arg17 arg18 cs co ws wo b p 0
      ∗ (iprop(held c arg10 cs allB ∗ held c arg11 co allB ∗ kvI c arg12 arg13 arg17 arg18 cs co ws wo b p 4) -∗ run defs 𝒱 c Q k)) : sProp 𝕄)
      ⊢ run defs 𝒱 c Q (kvStep arg10 arg11 arg12 arg13 arg17 harg17 arg18 harg18 b k) := by
  unfold kvStep
  iintro ⟨H10, H11, HI, Hk⟩
  iapply (held_load 𝒱 c (m := arg10) (D := allB) (fun _ => trivial)) $$ H10
  iintro H10
  iapply (held_load 𝒱 c (m := arg11) (D := allB) (fun _ => trivial)) $$ H11
  iintro H11
  iapply (loop_inv (run defs 𝒱 c Q) (kvTile arg12 arg13 arg17 harg17 arg18 harg18 b (fun i => cs ((rC b).emb i)) (fun i => co ((rC b).emb i)))
    (loop _) (fun _ _ _ => rfl) (fun _ _ _ _ => rfl) (kvI c arg12 arg13 arg17 arg18 cs co ws wo b p)
    (fun n k => kvTile_run 𝒱 c arg12 arg13 arg17 harg17 arg18 harg18 cs co ws wo b p n k) 4 0 rfl _)
  isplitl [HI]; · iexact HI
  iintro HI
  iapply Hk
  isplitl [H10]; · iexact H10
  isplitl [H11]; · iexact H11
  iexact HI

theorem kv_run (cs co : Vec F S1024x128 .bf16) (ws wo : Vec F S2x128x2048 .bf16) (k : P F) :
    (iprop(held c arg10 cs allB ∗ held c arg11 co allB ∗ held c arg12 ws allB ∗ held c arg13 wo allB
      ∗ held c arg17 (tTile.val (kvB cs co ws wo 0)) (tTile.on fun _ => False) ∗ held c arg18 (tTile.val (kvB cs co ws wo 1)) (tTile.on fun _ => False)
      ∗ (iprop(held c arg10 cs allB ∗ held c arg11 co allB ∗ held c arg12 ws allB ∗ held c arg13 wo allB
        ∗ held c arg17 (KV cs co ws wo 0) allB ∗ held c arg18 (KV cs co ws wo 1) allB) -∗ run defs 𝒱 c Q k)) : sProp 𝕄)
      ⊢ run defs 𝒱 c Q (kvStep arg10 arg11 arg12 arg13 arg17 harg17 arg18 harg18 0 <| kvStep arg10 arg11 arg12 arg13 arg17 harg17 arg18 harg18 1 k) := by
  have hne : ∀ {m : Memref sig .tc .vmem S1024x2048 .bf16} {w : ∀ x, (tTile.r x).shape.Idx → Elt F .bf16} {b : Fin 2} {q : Fin 2 × Fin 4 → Prop},
      (held c m (tTile.val w) (tTile.on q) : sProp 𝕄) ⊢ held c m (tTile.val w) (tTile.on fun x => (x.1 = b ∧ x.2.val < 0) ∨ q x) := by
    intro m w b q
    refine held_mono c ?_
    rintro i ⟨x, h, hj⟩
    exact ⟨⟨x, h.resolve_left fun h => absurd h.2 (Nat.not_lt_zero _), hj⟩, rfl⟩
  have hall : ∀ x : Fin 2 × Fin 4, (x.1 = 1 ∧ x.2.val < 4) ∨ (x.1 = 0 ∧ x.2.val < 4) ∨ False := by decide
  iintro ⟨H10, H11, H12, H13, H17, H18, Hk⟩
  iapply (kvStep_run 𝒱 c arg10 arg11 arg12 arg13 arg17 harg17 arg18 harg18 cs co ws wo 0 (fun _ => False) _)
  isplitl [H10]; · iexact H10
  isplitl [H11]; · iexact H11
  isplitl [H12 H13 H17 H18]
  · unfold kvI
    isplitl [H12]; · iexact H12
    isplitl [H13]; · iexact H13
    isplitl [H17]; · iapply (hne (w := kvB cs co ws wo 0) (b := 0) (q := fun _ => False)) $$ H17
    iapply (hne (w := kvB cs co ws wo 1) (b := 0) (q := fun _ => False)) $$ H18
  unfold kvI
  iintro ⟨H10, H11, H12, H13, H17, H18⟩
  iapply (kvStep_run 𝒱 c arg10 arg11 arg12 arg13 arg17 harg17 arg18 harg18 cs co ws wo 1 (fun x => (x.1 = 0 ∧ x.2.val < 4) ∨ False) _)
  isplitl [H10]; · iexact H10
  isplitl [H11]; · iexact H11
  isplitl [H12 H13 H17 H18]
  · unfold kvI
    isplitl [H12]; · iexact H12
    isplitl [H13]; · iexact H13
    isplitl [H17]; · iapply (hne (w := kvB cs co ws wo 0) (b := 1) (q := fun x => (x.1 = 0 ∧ x.2.val < 4) ∨ False)) $$ H17
    iapply (hne (w := kvB cs co ws wo 1) (b := 1) (q := fun x => (x.1 = 0 ∧ x.2.val < 4) ∨ False)) $$ H18
  unfold kvI KV
  iintro ⟨H10, H11, H12, H13, H17, H18⟩
  iapply Hk
  isplitl [H10]; · iexact H10
  isplitl [H11]; · iexact H11
  isplitl [H12]; · iexact H12
  isplitl [H13]; · iexact H13
  isplitl [H17]
  · iapply (tile_all c tTile (w := kvB cs co ws wo 0) hall) $$ H17
  · iapply (tile_all c tTile (w := kvB cs co ws wo 1) hall) $$ H18

/-! ## The heads -/

section Heads

variable (WO : Vec F S2048x2048 .f32) (ob : Fin 2 → Fin 16 → FVec F S512x128 .bf16)

open Classical in
/-- The output's blocks while head `h` runs, the blocks of `S` done. -/
def outS (h : ℕ) (S : Fin 2 × Fin 2 → Prop) (x : Fin 2 × Fin 2) : Vec F S1x512x1024 .f32 :=
  if S x then outB WO ob h x else outB WO ob (h - 1) x

theorem outStep_run (h : Fin 16) (b d : Fin 2) (S : Fin 2 × Fin 2 → Prop) (hS : ¬ S (b, d)) (k : P F) :
    (iprop(held c arg8 (tOut.val (outS WO ob h.val S)) (tOut.on fun x => 0 < h.val ∨ S x)
      ∗ (held c arg8 (tOut.val (outS WO ob h.val fun x => x = (b, d) ∨ S x)) (tOut.on fun x => 0 < h.val ∨ (x = (b, d) ∨ S x)) -∗ run defs 𝒱 c Q k)) : sProp 𝕄)
      ⊢ run defs 𝒱 c Q (outStep arg8 harg8 h (woS WO h) (ob b h) b d k) := by
  have hoth : ∀ x, 0 < h.val ∨ (x = (b, d) ∨ S x) → x = (b, d) ∨ ((0 < h.val ∨ S x) ∧ outS WO ob h.val (fun x => x = (b, d) ∨ S x) x = outS WO ob h.val S x) := by
    intro x hx
    by_cases e : x = (b, d)
    · exact Or.inl e
    · refine Or.inr ⟨hx.imp_right fun h => h.resolve_left e, ?_⟩
      unfold outS
      by_cases hs : S x
      · rw [if_pos (Or.inr hs), if_pos hs]
      · rw [if_neg (fun h => h.elim e hs), if_neg hs]
  have hnew : outS WO ob h.val (fun x => x = (b, d) ∨ S x) (b, d) = outB WO ob h.val (b, d) := by
    unfold outS
    rw [if_pos (Or.inl rfl)]
  have hold : outS WO ob h.val S (b, d) = outB WO ob (h.val - 1) (b, d) := by
    unfold outS
    rw [if_neg hS]
  obtain ⟨hv, hlt⟩ := h
  cases hv with
  | zero =>
    unfold outStep
    iintro ⟨H8, Hk⟩
    iapply (held_skip 𝒱 c (m := arg8)) $$ H8
    iintro H8
    iapply (tile_store 𝒱 c tOut (m := arg8) (w := outS WO ob 0 S) (w' := outS WO ob 0 fun x => x = (b, d) ∨ S x) (p := fun x => 0 < 0 ∨ S x)
      (p' := fun x => 0 < 0 ∨ (x = (b, d) ∨ S x)) (b, d) hnew hoth) $$ H8
    iexact Hk
  | succ n =>
    unfold outStep
    iintro ⟨H8, Hk⟩
    iapply (tile_load 𝒱 c tOut (m := arg8) (w := outS WO ob (n + 1) S) (p := fun x => 0 < n + 1 ∨ S x) (b, d) (Or.inl (Nat.succ_pos n))) $$ H8
    iintro H8
    iapply (held_skip 𝒱 c (m := arg8)) $$ H8
    iintro H8
    iapply (tile_store 𝒱 c tOut (m := arg8) (w := outS WO ob (n + 1) S) (w' := outS WO ob (n + 1) fun x => x = (b, d) ∨ S x) (p := fun x => 0 < n + 1 ∨ S x)
      (p' := fun x => 0 < n + 1 ∨ (x = (b, d) ∨ S x)) (b, d) (hnew.trans ?_) hoth) $$ H8
    · rw [hold]
      have e : Fin.ofNat 16 (n + 1) = ⟨n + 1, hlt⟩ := Fin.ext (Nat.mod_eq_of_lt hlt)
      show pOut (woS WO (Fin.ofNat 16 (n + 1))) (ob b (Fin.ofNat 16 (n + 1))) d (outB WO ob n (b, d)) = _
      rw [e]
      rfl
    iexact Hk

variable (Q' K V : Vec F S1024x2048 .bf16) (R : Vec F S16x1024x32 .bf16) (E : Vec F S1024x32 .bf16)

/-- What the heads read. -/
def headIn : sProp 𝕄 :=
  iprop(held c arg14 Q' allB ∗ held c arg17 K allB ∗ held c arg15 R allB ∗ held c arg16 E allB ∗ held c arg18 V allB)

theorem headBatch_run (h : Fin 16) (b : Fin 2) (S : Fin 2 × Fin 2 → Prop) (hS : ∀ d, ¬ S (b, d)) (k : P F) :
    (iprop(headIn c arg14 arg15 arg16 arg17 arg18 Q' K V R E
      ∗ held c arg8 (tOut.val (outS WO (obB Q' K V R E) h.val S)) (tOut.on fun x => 0 < h.val ∨ S x)
      ∗ (iprop(headIn c arg14 arg15 arg16 arg17 arg18 Q' K V R E
        ∗ held c arg8 (tOut.val (outS WO (obB Q' K V R E) h.val fun x => x = (b, 1) ∨ (x = (b, 0) ∨ S x))) (tOut.on fun x => 0 < h.val ∨ (x = (b, 1) ∨ (x = (b, 0) ∨ S x))))
        -∗ run defs 𝒱 c Q k)) : sProp 𝕄)
      ⊢ run defs 𝒱 c Q (headBatch arg8 harg8 arg14 arg15 arg16 arg17 arg18 h (woS WO h) b k) := by
  unfold headBatch headIn
  iintro ⟨⟨H14, H17, H15, H16, H18⟩, H8, Hk⟩
  iapply (held_load 𝒱 c (m := arg14) (D := allB) (fun _ => trivial)) $$ H14
  iintro H14
  iapply (held_load 𝒱 c (m := arg17) (D := allB) (fun _ => trivial)) $$ H17
  iintro H17
  iapply (held_load 𝒱 c (m := arg15) (D := allB) (fun _ => trivial)) $$ H15
  iintro H15
  iapply (held_load 𝒱 c (m := arg16) (D := allB) (fun _ => trivial)) $$ H16
  iintro H16
  iapply (held_load 𝒱 c (m := arg18) (D := allB) (fun _ => trivial)) $$ H18
  iintro H18
  iapply (outStep_run 𝒱 c arg8 harg8 WO (obB Q' K V R E) h b 0 S (hS 0) _)
  isplitl [H8]; · iexact H8
  iintro H8
  iapply (outStep_run 𝒱 c arg8 harg8 WO (obB Q' K V R E) h b 1 (fun x => x = (b, 0) ∨ S x) (fun hh => hh.elim (fun e => by simp at e) (hS 1)) _)
  isplitl [H8]; · iexact H8
  iintro H8
  iapply Hk
  isplitr [H8]
  · isplitl [H14]; · iexact H14
    isplitl [H17]; · iexact H17
    isplitl [H15]; · iexact H15
    isplitl [H16]; · iexact H16
    iexact H18
  · iexact H8

end Heads

section HeadLoop

variable (g : Buf (Elt F) (arg7.view.loc (c : Thread nD τ))) (Q' K V : Vec F S1024x2048 .bf16) (R : Vec F S16x1024x32 .bf16) (E : Vec F S1024x32 .bf16)

def woFree (k : Fin 2) : sProp 𝕄 := slotFree c arg20 (rW k) (sm arg24 k) arg7 (qsh k) g

def woFly (n : Fin 16) : sProp 𝕄 :=
  slotFly c arg20 (rW (slot n)) (sm arg24 (slot n)) arg7 (qsh (slot n)) g (wbSlot arg20 (slot n)).view.dmaCredit (rWo n)
    (by decide : S128x2048.ShapeCasts S1x128x2048)

theorem woStart_run (n : Fin 16) (k : P F) :
    (iprop(woFree c arg7 arg20 arg24 g (slot n) ∗ (woFly c arg7 arg20 arg24 g n -∗ run defs 𝒱 c Q k)) : sProp 𝕄)
      ⊢ run defs 𝒱 c Q (woStart arg7 arg20 arg24 n k) := by
  unfold woStart woFree woFly
  iintro ⟨H, Hk⟩
  iapply (slot_start 𝒱 c (m := arg20) (r := rW (slot n)) (rs := rWo n) (ms := arg7) (g := g) rfl (View.dmaCredit_pos _ h_S128x2048)) $$ H
  iexact Hk

/-- Before head `m`. -/
def headI (m : ℕ) : sProp 𝕄 :=
  iprop(owesNone c ∗ (if h : m < 16 then woFly c arg7 arg20 arg24 g ⟨m, h⟩ else woFree c arg7 arg20 arg24 g (slot m))
    ∗ woFree c arg7 arg20 arg24 g (slot (m + 1))
    ∗ headIn c arg14 arg15 arg16 arg17 arg18 Q' K V R E
    ∗ held c arg8 (tOut.val (outB (arg7.view.read (Elt F) g) (obB Q' K V R E) (m - 1))) (tOut.on fun _ => 0 < m))

theorem head_run (n : Fin 16) (k : P F) :
    (iprop(headI c arg7 arg8 arg14 arg15 arg16 arg17 arg18 arg20 arg24 g Q' K V R E n.val
      ∗ (headI c arg7 arg8 arg14 arg15 arg16 arg17 arg18 arg20 arg24 g Q' K V R E (n.val + 1) -∗ run defs 𝒱 c Q k)) : sProp 𝕄)
      ⊢ run defs 𝒱 c Q (head arg7 arg8 harg8 arg14 arg15 arg16 arg17 arg18 arg20 arg24 n k) := by
  have hrest : ∀ (G : sProp 𝕄), (iprop(owesNone c ∗ woFly c arg7 arg20 arg24 g n ∗ G
      ∗ headIn c arg14 arg15 arg16 arg17 arg18 Q' K V R E
      ∗ held c arg8 (tOut.val (outB (arg7.view.read (Elt F) g) (obB Q' K V R E) (n.val - 1))) (tOut.on fun _ => 0 < n.val)
      ∗ (iprop(owesNone c ∗ G ∗ woFree c arg7 arg20 arg24 g (slot n)
        ∗ headIn c arg14 arg15 arg16 arg17 arg18 Q' K V R E
        ∗ held c arg8 (tOut.val (outB (arg7.view.read (Elt F) g) (obB Q' K V R E) n.val)) (tOut.on fun _ => 0 < n.val + 1)) -∗ run defs 𝒱 c Q k)) : sProp 𝕄)
      ⊢ run defs 𝒱 c Q (woWait arg7 arg20 arg24 n <| ld arg20 (rW (slot n)) h_S1x128x2048 fun wo =>
          headBatch arg8 harg8 arg14 arg15 arg16 arg17 arg18 n wo 0 <| headBatch arg8 harg8 arg14 arg15 arg16 arg17 arg18 n wo 1 k) := by
    intro G
    unfold owesNone woFly woWait woFree
    iintro ⟨⟨%W, HO⟩, HF, HR, HI, H8, Hk⟩
    iapply (slot_wait 𝒱 c (m := arg20) (r := rW (slot n)) (rs := rWo n) (ms := arg7) (g := g) rfl) $$ [HF HO]
    · isplitl [HF]; · iexact HF
      iexact HO
    iintro ⟨⟨Hd, Hv, Hs⟩, HO⟩
    iapply (slot_load 𝒱 c (m := arg20) (r := rW (slot n))) $$ Hd
    iintro Hd
    iapply (headBatch_run 𝒱 c arg8 harg8 arg14 arg15 arg16 arg17 arg18 (arg7.view.read (Elt F) g) Q' K V R E n 0 (fun _ => False) (fun _ h => h) _)
    isplitl [HI]; · iexact HI
    isplitl [H8]
    · iapply (tile_mono c tOut (p := fun _ => 0 < n.val) (p' := fun _ => 0 < n.val ∨ False) (w := outB (arg7.view.read (Elt F) g) (obB Q' K V R E) (n.val - 1))
        (w' := outS (arg7.view.read (Elt F) g) (obB Q' K V R E) n.val fun _ => False) ?_) $$ H8
      exact fun x hx => ⟨hx.resolve_right id, if_neg id⟩
    iintro ⟨HI, H8⟩
    iapply (headBatch_run 𝒱 c arg8 harg8 arg14 arg15 arg16 arg17 arg18 (arg7.view.read (Elt F) g) Q' K V R E n 1 (fun x => x = (0, 1) ∨ (x = (0, 0) ∨ False)) (by decide) _)
    isplitl [HI]; · iexact HI
    isplitl [H8]; · iexact H8
    iintro ⟨HI, H8⟩
    iapply Hk
    isplitl [HO]; · iexists _; iexact HO
    isplitl [HR]; · iexact HR
    isplitl [Hd Hv Hs]
    · unfold slotFree
      isplitl [Hd]; · iapply (slotHeld_any c); iexact Hd
      isplitl [Hv]; · iexact Hv
      iexact Hs
    isplitl [HI]; · iexact HI
    have hall : ∀ x : Fin 2 × Fin 2, x = (1, 1) ∨ (x = (1, 0) ∨ (x = (0, 1) ∨ (x = (0, 0) ∨ False))) := by decide
    iapply (tile_mono c tOut (p' := fun _ => 0 < n.val + 1)
      (p := fun x => 0 < n.val ∨ (x = (1, 1) ∨ (x = (1, 0) ∨ (x = (0, 1) ∨ (x = (0, 0) ∨ False)))))
      (w := outS (arg7.view.read (Elt F) g) (obB Q' K V R E) n.val fun x => x = (1, 1) ∨ (x = (1, 0) ∨ (x = (0, 1) ∨ (x = (0, 0) ∨ False))))
      (w' := outB (arg7.view.read (Elt F) g) (obB Q' K V R E) n.val) ?_) $$ H8
    exact fun x _ => ⟨Or.inr (hall x), (if_pos (hall x)).symm⟩
  unfold head headI
  rw [dif_pos n.isLt]
  by_cases h : n.val + 1 < 16
  · rw [show next16 n = some ⟨n.val + 1, h⟩ from dif_pos h, dif_pos h]
    iintro ⟨⟨HO, HF, HR, HI, H8⟩, Hk⟩
    iapply (woStart_run 𝒱 c arg7 arg20 arg24 g ⟨n.val + 1, h⟩ _)
    isplitl [HR]; · iexact HR
    iintro HR
    iapply (hrest _)
    isplitl [HO]; · iexact HO
    isplitl [HF]; · iexact HF
    isplitl [HR]; · iexact HR
    isplitl [HI]; · iexact HI
    isplitl [H8]; · iexact H8
    rw [slot_next]
    iexact Hk
  · rw [show next16 n = none from dif_neg h, dif_neg h]
    iintro ⟨⟨HO, HF, HR, HI, H8⟩, Hk⟩
    iapply (hrest _)
    isplitl [HO]; · iexact HO
    isplitl [HF]; · iexact HF
    isplitl [HR]; · iexact HR
    isplitl [HI]; · iexact HI
    isplitl [H8]; · iexact H8
    rw [slot_next]
    iexact Hk

theorem heads_run (k : P F) :
    (iprop(headI c arg7 arg8 arg14 arg15 arg16 arg17 arg18 arg20 arg24 g Q' K V R E 0
      ∗ (headI c arg7 arg8 arg14 arg15 arg16 arg17 arg18 arg20 arg24 g Q' K V R E 16 -∗ run defs 𝒱 c Q k)) : sProp 𝕄)
      ⊢ run defs 𝒱 c Q (loop (head arg7 arg8 harg8 arg14 arg15 arg16 arg17 arg18 arg20 arg24) 16 0 rfl k) :=
  loop_inv (run defs 𝒱 c Q) (head arg7 arg8 harg8 arg14 arg15 arg16 arg17 arg18 arg20 arg24) (loop _) (fun _ _ _ => rfl) (fun _ _ _ _ => rfl) _
    (fun n k => head_run 𝒱 c arg7 arg8 harg8 arg14 arg15 arg16 arg17 arg18 arg20 arg24 g Q' K V R E n k) 16 0 rfl k

end HeadLoop

/-! ## The device's own weights and latent -/

theorem wStep_run (m : Memref sig .tc .vmem S128x2048 .f32) (WK WV W' : Vec F S128x2048 .f32) (j : Fin 2) (hj : wsB WK WV j = k0_pay2 W') (p : Fin 2 → Prop) (k : P F) :
    (iprop(held c m W' allB ∗ held c arg12 (tW.val (wsB WK WV)) (tW.on p)
      ∗ (iprop(held c m W' allB ∗ held c arg12 (tW.val (wsB WK WV)) (tW.on fun x => x = j ∨ p x)) -∗ run defs 𝒱 c Q k)) : sProp 𝕄)
      ⊢ run defs 𝒱 c Q (wStep arg12 harg12 m j k) := by
  unfold wStep
  iintro ⟨Hm, H12, Hk⟩
  iapply (held_load 𝒱 c (m := m) (D := allB) (fun _ => trivial)) $$ Hm
  iintro Hm
  iapply (held_skip 𝒱 c (m := arg12)) $$ H12
  iintro H12
  iapply (tile_store 𝒱 c tW (m := arg12) (w := wsB WK WV) (w' := wsB WK WV) (p := p) (p' := fun x => x = j ∨ p x) j ?_
    (fun b' h => h.imp_right fun h => ⟨h, rfl⟩)) $$ H12
  · rw [hj]
    exact congrArg k0_pay2 (funext fun i => congrArg W' (emb_zero2 i).symm)
  iintro H12
  iapply Hk
  isplitl [Hm]; · iexact Hm
  iexact H12

theorem cStep_run (WD : Vec F S2048x128 .f32) (b : Fin 2) (p : Fin 2 → Prop) (k : P F) :
    (iprop(held c arg0 X allB ∗ held c arg9 (tRow.val (xbB X)) (tRow.on p) ∗ held c arg10 (tC.val (csB X WD)) (tC.on p)
      ∗ (iprop(held c arg0 X allB ∗ held c arg9 (tRow.val (xbB X)) (tRow.on fun x => x = b ∨ p x) ∗ held c arg10 (tC.val (csB X WD)) (tC.on fun x => x = b ∨ p x)) -∗ run defs 𝒱 c Q k)) : sProp 𝕄)
      ⊢ run defs 𝒱 c Q (cStep arg0 arg9 harg9 arg10 harg10 WD b k) := by
  unfold cStep
  iintro ⟨H0, H9, H10, Hk⟩
  iapply (held_load 𝒱 c (m := arg0) (D := allB) (fun _ => trivial)) $$ H0
  iintro H0
  iapply (held_skip 𝒱 c (m := arg9)) $$ H9
  iintro H9
  iapply (tile_store 𝒱 c tRow (m := arg9) (w := xbB X) (w' := xbB X) (p := p) (p' := fun x => x = b ∨ p x) b rfl
    (fun b' h => h.imp_right fun h => ⟨h, rfl⟩)) $$ H9
  iintro H9
  iapply (tile_load 𝒱 c tRow (m := arg9) (w := xbB X) (p := fun x => x = b ∨ p x) b (Or.inl rfl)) $$ H9
  iintro H9
  iapply (held_skip 𝒱 c (m := arg10)) $$ H10
  iintro H10
  iapply (tile_store 𝒱 c tC (m := arg10) (w := csB X WD) (w' := csB X WD) (p := p) (p' := fun x => x = b ∨ p x) b rfl
    (fun b' h => h.imp_right fun h => ⟨h, rfl⟩)) $$ H10
  iintro H10
  iapply Hk
  isplitl [H0]; · iexact H0
  isplitl [H9]; · iexact H9
  iexact H10

end Cert.KernelIdeal.Mla

end
-- ==== Proof.BodyI.Protocol.lean ====
/- The exchange between a device and its partner.

   A device has five cells: the barrier semaphore, and for each of its two transfers the semaphore its partner's
   transfer raises here and the one its own transfer raises when it has left. Each has one duty, in one round. -/
module

public import proofs.«01_k».proof.Proof.BodyI.Phases
public import proofs.«01_k».proof.Proof.Gen.KernelIdeal.Launch
public import Idealize.ShloMosaic.Lib.Rounds

@[expose] public section

set_option synthInstance.maxSize 4096

noncomputable section

namespace Cert.KernelIdeal.Mla

open Idealize.ShloMosaic Idealize.ShloMosaic.Transfers
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Held

variable {F : FTy → Type} [FloatOps F] [Named F]

/-! ## The resources: the pipeline's rounds, the exchange's rounds, the local copies' counters -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL

/-- Where the exchange's rounds lie. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ) (ρ : Dev nD → PrngReg)

/-- The memory at launch. -/
def s₀ : MemSt nD τ sig (Elt F) := ⟨m, fun _ => 0, ρ⟩

/-! ## Partners -/

/-- The device across the first axis of the mesh. -/
def ptn (c : Dev nD) : Dev nD := ⟨(c.val + 4) % 8, Nat.mod_lt _ (by decide)⟩

theorem ptn_ptn (c : Dev nD) : ptn (ptn c) = c := by revert c; decide
theorem dev1_ptn (c : Dev nD) : (⟨k0_dev1 c, k0_dev1_lt c⟩ : Dev nD) = ptn c := Fin.ext ((k0_dev1_eq c).trans (by revert c; decide))
theorem dev2_ptn (c : Dev nD) : (⟨k0_dev2 c, k0_dev2_lt c⟩ : Dev nD) = ptn c := Fin.ext ((k0_dev2_eq c).trans (by revert c; decide))
theorem dev3_ptn (c : Dev nD) : (⟨k0_dev3 c, k0_dev3_lt c⟩ : Dev nD) = ptn c := Fin.ext ((k0_dev3_eq c).trans (by revert c; decide))

def swap : Dev nD ≃ Dev nD := ⟨ptn, ptn, ptn_ptn, ptn_ptn⟩

/-! ## The device's arrays -/

abbrev aX : Memref sig .tc .vmem S2x512x2048 .f32 := Memref.whole cc0_stg0_0
abbrev aWD : Memref sig .tc .vmem S2048x128 .f32 := Memref.whole cc0_stg1_0
abbrev aWK : Memref sig .tc .vmem S128x2048 .f32 := Memref.whole cc0_stg2_0
abbrev aWV : Memref sig .tc .vmem S128x2048 .f32 := Memref.whole cc0_stg3_0
abbrev aWQ : Memref sig .tc .hbm S2048x2048 .f32 := Memref.whole main_arg4
abbrev aWR : Memref sig .tc .vmem S2048x512 .f32 := Memref.whole cc0_stg4_0
abbrev aWE : Memref sig .tc .vmem S2048x32 .f32 := Memref.whole cc0_stg5_0
abbrev aWO : Memref sig .tc .hbm S2048x2048 .f32 := Memref.whole main_arg7
abbrev aOut : Memref sig .tc .vmem S2x512x2048 .f32 := Memref.whole cc0_stg6_0
abbrev bX : Memref sig .tc .vmem S1024x2048 .bf16 := Memref.whole cc0_scratch0
abbrev bCs : Memref sig .tc .vmem S1024x128 .bf16 := Memref.whole cc0_scratch1
abbrev bCo : Memref sig .tc .vmem S1024x128 .bf16 := Memref.whole cc0_scratch2
abbrev bWs : Memref sig .tc .vmem S2x128x2048 .bf16 := Memref.whole cc0_scratch3
abbrev bWo : Memref sig .tc .vmem S2x128x2048 .bf16 := Memref.whole cc0_scratch4
abbrev bQ : Memref sig .tc .vmem S1024x2048 .bf16 := Memref.whole cc0_scratch5
abbrev bQr : Memref sig .tc .vmem S16x1024x32 .bf16 := Memref.whole cc0_scratch6
abbrev bKr : Memref sig .tc .vmem S1024x32 .bf16 := Memref.whole cc0_scratch7
abbrev bK : Memref sig .tc .vmem S1024x2048 .bf16 := Memref.whole cc0_scratch8
abbrev bV : Memref sig .tc .vmem S1024x2048 .bf16 := Memref.whole cc0_scratch9
abbrev bStrip : Memref sig .tc .vmem S2x2048x256 .f32 := Memref.whole cc0_scratch10
abbrev bHead : Memref sig .tc .vmem S2x128x2048 .f32 := Memref.whole cc0_scratch11

/-! ## What the windows bring, and what the device computes of it -/

def inX (c : Dev nD) : Vec F S2x512x2048 .f32 := (win0_0.blk (0 : Fin 1)).view.read (Elt F) ((s₀ m ρ).mem ((c : Thread nD τ).loc main_arg0))
def inWD (c : Dev nD) : Vec F S2048x128 .f32 := (win0_1.blk (0 : Fin 1)).view.read (Elt F) ((s₀ m ρ).mem ((c : Thread nD τ).loc main_arg1))
def inWK (c : Dev nD) : Vec F S128x2048 .f32 := (win0_2.blk (0 : Fin 1)).view.read (Elt F) ((s₀ m ρ).mem ((c : Thread nD τ).loc main_arg2))
def inWV (c : Dev nD) : Vec F S128x2048 .f32 := (win0_3.blk (0 : Fin 1)).view.read (Elt F) ((s₀ m ρ).mem ((c : Thread nD τ).loc main_arg3))
def inWR (c : Dev nD) : Vec F S2048x512 .f32 := (win0_4.blk (0 : Fin 1)).view.read (Elt F) ((s₀ m ρ).mem ((c : Thread nD τ).loc main_arg5))
def inWE (c : Dev nD) : Vec F S2048x32 .f32 := (win0_5.blk (0 : Fin 1)).view.read (Elt F) ((s₀ m ρ).mem ((c : Thread nD τ).loc main_arg6))
abbrev memWQ (c : Dev nD) : Buf (Elt F) (aWQ.view.loc (c : Thread nD τ)) := (s₀ m ρ).mem ((c : Thread nD τ).loc main_arg4)
abbrev memWO (c : Dev nD) : Buf (Elt F) (aWO.view.loc (c : Thread nD τ)) := (s₀ m ρ).mem ((c : Thread nD τ).loc main_arg7)

/-- The device's share of the latent, its rows of the two weights. -/
def csAt (c : Dev nD) : Vec F S1024x128 .bf16 := CS (inX m ρ c) (inWD m ρ c)
def wsAt (c : Dev nD) : Vec F S2x128x2048 .bf16 := WS (inWK m ρ c) (inWV m ρ c)

/-- What the device stores. -/
def outAt (c : Dev nD) : Vec F S2x512x2048 .f32 :=
  OUT (inX m ρ c) (aWQ.view.read (Elt F) (memWQ m ρ c)) (inWR m ρ c) (inWE m ρ c) (aWO.view.read (Elt F) (memWO m ρ c))
    (csAt m ρ c) (csAt m ρ (ptn c)) (wsAt m ρ c) (wsAt m ρ (ptn c))

/-! ## Cells -/

abbrev barS : Sem sig := (SemArray.scalar (sig.barrier 0 rfl) : Sems sig S_).sem

/-- The kernel's own scoped semaphores. -/
abbrev osem : Fin 8 → SemLoc sig := fun
  | 0 => .dma (sm cc0_scratch12 0) | 1 => .dma (sm cc0_scratch12 1) | 2 => .dma (sm cc0_scratch13 0) | 3 => .dma (sm cc0_scratch13 1)
  | 4 => .dma (sm cc0_scratch14 0) | 5 => .dma (sm cc0_scratch14 1) | 6 => .dma (sm cc0_scratch15 0) | 7 => .dma (sm cc0_scratch15 1)

/-- The exchange's: the barrier, then for each transfer the leaving and the arriving. -/
abbrev csem : Fin 5 → SemLoc sig := fun
  | 0 => .reg barS | 1 => .dma (sm cc0_scratch12 0) | 2 => .dma (sm cc0_scratch13 0) | 3 => .dma (sm cc0_scratch12 1) | 4 => .dma (sm cc0_scratch13 1)
abbrev kcell (ck : Dev nD × Fin 5) : GSem nD τ sig := ((ck.1 : Thread nD τ), csem ck.2)

theorem csem_injective : Function.Injective csem := by decide
theorem kcell_injective : Function.Injective (kcell : Dev nD × Fin 5 → GSem nD τ sig) := by
  rintro ⟨c, k⟩ ⟨c', k'⟩ h
  have h1 : c = c' := congrArg (fun g : GSem nD τ sig => g.1.1) h
  have h2 : k = k' := csem_injective (congrArg Prod.snd h)
  subst h1 h2; rfl

/-- Units per cell. -/
abbrev N0 : ℕ := bWo.view.dmaCredit
abbrev N1 : ℕ := bCo.view.dmaCredit
theorem N0_pos : 0 < N0 := View.dmaCredit_pos _ (by decide)
theorem N1_pos : 0 < N1 := View.dmaCredit_pos _ (by decide)
def amt : Fin 5 → ℕ := fun | 0 => 1 | 1 => N0 | 2 => N0 | 3 => N1 | 4 => N1
theorem amt_pos (k : Fin 5) : 0 < amt k := by
  fin_cases k
  exacts [Nat.one_pos, N0_pos, N0_pos, N1_pos, N1_pos]

/-- A landing buffer at some contents. -/
def someOf {s : Shape} {e : EltTy} (c : Dev nD) (b : Memref sig .tc .vmem s e) : sProp 𝕄 :=
  iprop(∃ f : Buf (Elt F) (b.view.loc (c : Thread nD τ)), b.view.loc (c : Thread nD τ) ↦[b.view.set]{fullShare} f)

/-- What each cell's duty hands its device: the barrier the partner's two landing buffers and that the partner stands
    at the start of its arrivals, a leaving the buffer that left, an arrival the partner's buffer's contents. -/
def pay (c : Dev nD) : Fin 5 → sProp 𝕄 := fun
  | 0 => iprop((someOf (ptn c) bWo ∗ someOf (ptn c) bCo) ∗ reached ER (kcell (ptn c, 2)) 0 ∗ reached ER (kcell (ptn c, 4)) 0)
  | 1 => held c bWs (wsAt m ρ c) allB
  | 2 => held c bWo (wsAt m ρ (ptn c)) allB
  | 3 => held c bCs (csAt m ρ c) allB
  | 4 => held c bCo (csAt m ρ (ptn c)) allB

instance someOf_storable {s : Shape} {e : EltTy} (c : Dev nD) (b : Memref sig .tc .vmem s e) : BI.Storable (upEmb : UEmb _ 𝕄) (someOf (F := F) c b) := by
  unfold someOf; infer_instance
instance held_storable {s : Shape} {e : EltTy} (c : Dev nD) (b : Memref sig .tc .vmem s e) (T : s.Idx → Elt F e) (D : s.Idx → Prop) :
    BI.Storable (upEmb : UEmb _ 𝕄) (held c b T D) := by
  unfold held; infer_instance

instance pay_storable (c : Dev nD) (k : Fin 5) : BI.Storable (upEmb : UEmb _ 𝕄) (pay m ρ c k) := by
  fin_cases k
  · show BI.Storable upEmb iprop((someOf (ptn c) bWo ∗ someOf (ptn c) bCo) ∗ reached ER (kcell (ptn c, 2)) 0 ∗ reached ER (kcell (ptn c, 4)) 0)
    infer_instance
  · exact held_storable c bWs (wsAt m ρ c) allB
  · exact held_storable c bWo (wsAt m ρ (ptn c)) allB
  · exact held_storable c bCs (csAt m ρ c) allB
  · exact held_storable c bCo (csAt m ρ (ptn c)) allB

open Classical in
/-- The schedule: one duty per cell of the exchange, in round 0. -/
def Rd : Rounds.Schedule (GSem nD τ sig) Unit 𝕄 where
  duties g r := if r = 0 ∧ ∃ ck, kcell ck = g then {()} else ∅
  unitless _ := False
  amount g _ _ := if h : ∃ ck, kcell ck = g then amt h.choose.2 else 1
  payload g _ _ := if h : ∃ ck, kcell ck = g then pay m ρ h.choose.1 h.choose.2 else iprop(emp)
  amount_pos g _ _ _ := by
    split
    · exact amt_pos _
    · exact Nat.one_pos

instance Rd_payload_storable (g : GSem nD τ sig) (r : ℕ) (d : Unit) : BI.Storable (upEmb : UEmb _ 𝕄) ((Rd (F := F) m ρ).payload g r d) := by
  dsimp only [Rd]
  split <;> infer_instance

theorem choose_kcell (ck : Dev nD × Fin 5) (h : ∃ x, kcell x = kcell ck) : h.choose = ck := kcell_injective h.choose_spec

theorem duties_kcell (ck : Dev nD × Fin 5) : (Rd (F := F) m ρ).duties (kcell ck) 0 = {()} := if_pos ⟨rfl, ck, rfl⟩
theorem duties_mem (ck : Dev nD × Fin 5) : () ∈ (Rd (F := F) m ρ).duties (kcell ck) 0 := by
  rw [duties_kcell]; exact Finset.mem_singleton_self _
theorem duties_later (g : GSem nD τ sig) : ∀ r, 1 ≤ r → (Rd (F := F) m ρ).duties g r = ∅ :=
  fun r hr => if_neg fun h => by omega
theorem amount_kcell (ck : Dev nD × Fin 5) : (Rd (F := F) m ρ).amount (kcell ck) 0 () = amt ck.2 := by
  have h : ∃ x, kcell x = kcell ck := ⟨ck, rfl⟩
  dsimp only [Rd]
  rw [dif_pos h, choose_kcell ck h]
theorem payload_kcell (ck : Dev nD × Fin 5) : (Rd (F := F) m ρ).payload (kcell ck) 0 () = pay m ρ ck.1 ck.2 := by
  have h : ∃ x, kcell x = kcell ck := ⟨ck, rfl⟩
  dsimp only [Rd]
  rw [dif_pos h, choose_kcell ck h]
theorem expect_kcell (ck : Dev nD × Fin 5) : (Rd (F := F) m ρ).expect (kcell ck) 0 = amt ck.2 := by
  unfold Schedule.expect Schedule.amountOf
  rw [duties_kcell, Finset.sum_singleton, amount_kcell]
theorem rest_kcell (ck : Dev nD × Fin 5) :
    bigSep ((Rd (F := F) m ρ).duties (kcell ck) 0 \ ∅) (fun d => (Rd (F := F) m ρ).payload (kcell ck) 0 d) = pay m ρ ck.1 ck.2 := by
  rw [Finset.sdiff_empty, duties_kcell, bigSep_singleton, payload_kcell]

/-! ## What a device owes, and the levels -/

/-- After the signal and the first transfer: the second. -/
def O₂ (c : Dev nD) : CellTallies nD τ sig Unit := tallyAt (kcell (ptn c, 4)) () N1
/-- After the signal. -/
def O₁ (c : Dev nD) : CellTallies nD τ sig Unit := O₂ c + tallyAt (kcell (ptn c, 2)) () N0
/-- At launch. -/
def O₀ (c : Dev nD) : CellTallies nD τ sig Unit := O₁ c + tallyAt (kcell (ptn c, 0)) () 1

def L (g : GSem nD τ sig) : Finset Unit := if g.1.2 = .tc then {()} else ∅
/-- Arrivals above the barrier, the barrier above the rest. -/
def lv (g : GSem nD τ sig) (_ : Unit) : ℕ := if g.2 = csem 0 then 1 else if g.2 = csem 2 ∨ g.2 = csem 4 then 2 else 0

theorem L_of_ne (g : GSem nD τ sig) (h : g.1.2 ≠ .tc) : L g = ∅ := if_neg h
theorem L_tc (c : Dev nD) (x : SemLoc sig) : L ((c : Thread nD τ), x) = {()} := if_pos rfl

theorem lv_kcell (c : Dev nD) (k : Fin 5) : lv (kcell (c, k)) () = if k = 0 then 1 else if k = 2 ∨ k = 4 then 2 else 0 := by
  unfold lv
  show (if csem k = csem 0 then 1 else if csem k = csem 2 ∨ csem k = csem 4 then 2 else 0) = _
  simp only [csem_injective.eq_iff]

theorem owed_at (c d : Dev nD) (k : Fin 5) :
    O₀ c (kcell (d, k)) () = if d = ptn c then (if k = 4 then N1 else 0) + (if k = 2 then N0 else 0) + (if k = 0 then 1 else 0) else 0 := by
  unfold O₀ O₁ O₂
  rw [Pi.add_apply, Finsupp.add_apply, Pi.add_apply, Finsupp.add_apply, tallyAt_apply, tallyAt_apply, tallyAt_apply]
  simp only [kcell_injective.eq_iff, Prod.mk.injEq, and_true]
  by_cases h : d = ptn c
  · simp only [h, true_and, if_true]
  · simp only [h, false_and, if_false]

/-- Waits allowed: what is owed lies higher. -/
theorem mayWait_of (c : Dev nD) (x : SemLoc sig) (O : CellTallies nD τ sig Unit) (n : ℕ) (hn : lv ((c : Thread nD τ), x) () ≤ n)
    (hO : ∀ g u, 0 < O g u → ∃ k, g = kcell (ptn c, k) ∧ n < lv g ()) :
    (levAts L lv : sProp 𝕄) ⊢ MayWait (c : Thread nD τ) x () O :=
  MayOwe.of_cut (L := L) (lev := lv) n (fun p hp => by rw [Finset.mem_singleton.mp hp, L_tc]; exact Finset.mem_singleton_self _)
    (fun g u hg => by obtain ⟨k, rfl, -⟩ := hO g u hg; exact Finset.mem_singleton_self _)
    (fun p hp => by rw [Finset.mem_singleton.mp hp]; exact hn)
    (fun g u hg => by obtain ⟨k, -, h⟩ := hO g u hg; exact h)

theorem tally_pos {g g' : GSem nD τ sig} {u : Unit} {n : ℕ} (h : 0 < (tallyAt g' () n : CellTallies nD τ sig Unit) g u) : g = g' := by
  by_contra hn
  rw [tallyAt_apply, if_neg fun h' => hn h'.1] at h
  exact Nat.lt_irrefl 0 h

theorem O₁_pos {c : Dev nD} {g : GSem nD τ sig} {u : Unit} (h : 0 < O₁ c g u) : g = kcell (ptn c, 4) ∨ g = kcell (ptn c, 2) := by
  unfold O₁ O₂ at h
  rw [Pi.add_apply, Finsupp.add_apply] at h
  rcases Nat.eq_zero_or_pos ((tallyAt (kcell (ptn c, 4)) () N1 : CellTallies nD τ sig Unit) g u) with h' | h'
  · rw [h', Nat.zero_add] at h; exact Or.inr (tally_pos h)
  · exact Or.inl (tally_pos h')

theorem O₀_pos {c : Dev nD} {g : GSem nD τ sig} {u : Unit} (h : 0 < O₀ c g u) : ∃ k, g = kcell (ptn c, k) ∧ 0 < lv g () := by
  unfold O₀ at h
  rw [Pi.add_apply, Finsupp.add_apply] at h
  rcases Nat.eq_zero_or_pos (O₁ c g u) with h' | h'
  · rw [h', Nat.zero_add] at h; exact ⟨0, tally_pos h, by rw [tally_pos h, lv_kcell]; decide⟩
  · rcases O₁_pos h' with rfl | rfl
    · exact ⟨4, rfl, by rw [lv_kcell]; decide⟩
    · exact ⟨2, rfl, by rw [lv_kcell]; decide⟩

theorem mayWait_low (c : Dev nD) (x : SemLoc sig) (hx : lv ((c : Thread nD τ), x) () = 0) (O : CellTallies nD τ sig Unit) (hO : O = O₀ c ∨ O = 0) :
    (levAts L lv : sProp 𝕄) ⊢ MayWait (c : Thread nD τ) x () O := by
  rcases hO with rfl | rfl
  · exact mayWait_of c x _ 0 hx.le fun g u h => O₀_pos h
  · rw [MayWait_zero]; iintro -; iempintro

theorem mayWait_bar (c : Dev nD) : (levAts L lv : sProp 𝕄) ⊢ MayWait (c : Thread nD τ) (csem 0) () (O₁ c) :=
  mayWait_of c (csem 0) _ 1 (by rw [show ((c : Thread nD τ), csem 0) = kcell (c, 0) from rfl, lv_kcell]; decide) fun g u h => by
    rcases O₁_pos h with rfl | rfl
    · exact ⟨4, rfl, by rw [lv_kcell]; decide⟩
    · exact ⟨2, rfl, by rw [lv_kcell]; decide⟩

/-! ## What the body starts from -/

/-- The invariants the body opens: the device's cells and its partner's. -/
def invs (K : Dev nD × Fin 5 → ℕ) (c : Dev nD) : sProp 𝕄 :=
  iprop((bigSep Finset.univ fun k : Fin 5 => cellInv ER (Rd m ρ) (K (c, k)) (kcell (c, k)))
    ∗ bigSep Finset.univ fun k : Fin 5 => cellInv ER (Rd m ρ) (K (ptn c, k)) (kcell (ptn c, k)))

instance invs_persistent (K : Dev nD × Fin 5 → ℕ) (c : Dev nD) : BI.Persistent (invs m ρ K c) := by unfold invs; infer_instance

/-- Every device's cells stand at their start. -/
def marks : sProp 𝕄 := bigSep Finset.univ fun ck : Dev nD × Fin 5 => reached ER (kcell ck) 0
instance marks_persistent : BI.Persistent (marks (F := F)) := by unfold marks; infer_instance

/-- The tokens of the duties the device pays: its partner's barrier and arrivals, its own leavings. -/
def payToks (c : Dev nD) : sProp 𝕄 :=
  iprop(dutyTok ER (kcell (ptn c, 0)) 0 () ∗ dutyTok ER (kcell (c, 1)) 0 () ∗ dutyTok ER (kcell (ptn c, 2)) 0 ()
    ∗ dutyTok ER (kcell (c, 3)) 0 () ∗ dutyTok ER (kcell (ptn c, 4)) 0 ())

/-- The semaphores of the local copies, at zero. -/
def copySems (c : Dev nD) : sProp 𝕄 :=
  iprop(semVal ((c : Thread nD τ), osem 4) 0 ∗ semVal ((c : Thread nD τ), osem 5) 0 ∗ semVal ((c : Thread nD τ), osem 6) 0 ∗ semVal ((c : Thread nD τ), osem 7) 0)

def ghost (K : Dev nD × Fin 5 → ℕ) (c : Dev nD) : sProp 𝕄 :=
  iprop(invs m ρ K c ∗ marks ∗ (bigSep Finset.univ fun k : Fin 5 => atPos ER (kcell (c, k)) 0 ∅ 0) ∗ payToks c ∗ copySems c)

/-- The two weights the kernel reads where they lie. -/
def restMem (c : Dev nD) : sProp 𝕄 :=
  iprop((((c : Thread nD τ).loc main_arg4) ↦{fullShare} (s₀ m ρ).mem ((c : Thread nD τ).loc main_arg4))
    ∗ (((c : Thread nD τ).loc main_arg7) ↦{fullShare} (s₀ m ρ).mem ((c : Thread nD τ).loc main_arg7)))

/-- The credit the device waits with. -/
def creds (c : Dev nD) : sProp 𝕄 :=
  iprop(cred (tallyAt (kcell (c, 0)) () 1) ∗ cred (tallyAt (kcell (c, 2)) () N0) ∗ cred (tallyAt (kcell (c, 4)) () N1))

def start (c : Dev nD) : sProp 𝕄 := iprop((∃ K, ghost m ρ K c) ∗ creds c ∗ levAts L lv ∗ restMem m ρ c)

/-- The kernel's scratch at some contents. -/
def scratch (c : Dev nD) : sProp 𝕄 :=
  iprop(someOf c bX ∗ someOf c bCs ∗ someOf c bCo ∗ someOf c bWs ∗ someOf c bWo ∗ someOf c bQ ∗ someOf c bQr ∗ someOf c bKr
    ∗ someOf c bK ∗ someOf c bV ∗ someOf c bStrip ∗ someOf c bHead)

def Φ₀ (c : Dev nD) : sProp 𝕄 := iprop(start m ρ c ∗ scratch c)

/-- After the body: the scratch again, every semaphore at zero. -/
def Φ₁ (c : Dev nD) : sProp 𝕄 :=
  iprop(scratch c ∗ (bigSep Finset.univ fun k : Fin 5 => semVal (kcell (c, k)) 0) ∗ copySems c ∗ restMem m ρ c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => inX m ρ c
    | ⟨1, _⟩ => inWD m ρ c
    | ⟨2, _⟩ => inWK m ρ c
    | ⟨3, _⟩ => inWV m ρ c
    | ⟨4, _⟩ => inWR m ρ c
    | ⟨5, _⟩ => inWE m ρ c
    | ⟨6, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

end Cert.KernelIdeal.Mla

end
-- ==== Proof.BodyI.Body.lean ====
/- The body of a device, run from what it is launched with. -/
module

public import proofs.«01_k».proof.Proof.BodyI.Protocol
public import proofs.«01_k».proof.Proof.Gen.KernelIdeal.Points

@[expose] public section

set_option synthInstance.maxSize 4096

noncomputable section

namespace Cert.KernelIdeal.Mla

open Idealize.ShloMosaic Idealize.ShloMosaic.Transfers
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Held

variable {F : FTy → Type} [FloatOps F] [Named F]

local notation "𝕄" => MT nD τ sig Unit (Elt F) ℕ UU ℕ

variable (m : (ℓ : Loc nD τ sig) → Buf (Elt F) ℓ) (ρ : Dev nD → PrngReg)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-! ## Buffers -/

section Buffers

variable {s : Shape} {e : EltTy} (c : Dev nD)

theorem held_of_pts {b : Memref sig .tc .vmem s e} {X : s.Idx → Elt F e} (hs : b.view.set = Finset.univ) {f : Buf (Elt F) (b.view.loc (c : Thread nD τ))}
    (hf : b.view.read (Elt F) f = X) : (b.view.loc (c : Thread nD τ) ↦{fullShare} f : sProp 𝕄) ⊢ held c b X allB := by
  unfold held
  rw [hs]
  iintro H
  iexists f
  isplitr; · ipureintro; exact fun i _ => congrFun hf i
  iexact H

theorem pts_of_held {b : Memref sig .tc .vmem s e} {X : s.Idx → Elt F e} (hs : b.view.set = Finset.univ) :
    (held c b X allB : sProp 𝕄) ⊢ iprop(∃ f : Buf (Elt F) (b.view.loc (c : Thread nD τ)), ⌜b.view.read (Elt F) f = X⌝ ∗ (b.view.loc (c : Thread nD τ) ↦{fullShare} f)) := by
  unfold held
  rw [hs]
  iintro ⟨%f, %hf, H⟩
  iexists f
  isplitr; · ipureintro; exact funext fun i => hf i trivial
  iexact H

theorem someOf_held {b : Memref sig .tc .vmem s e} {T : s.Idx → Elt F e} {D : s.Idx → Prop} (hD : ∀ i, ¬ D i) :
    (someOf c b : sProp 𝕄) ⊢ held c b T D := by
  unfold someOf
  iintro ⟨%f, H⟩
  iapply (held_none c hD); iexact H

theorem held_someOf {b : Memref sig .tc .vmem s e} {T : s.Idx → Elt F e} {D : s.Idx → Prop} : (held c b T D : sProp 𝕄) ⊢ someOf c b := by
  unfold someOf held
  iintro ⟨%f, -, H⟩
  iexists f; iexact H

theorem tiles_none {B : Type} (t : Tiles s B) : ∀ i, ¬ t.on (fun _ => False) i := fun i ⟨_, h, _⟩ => h

variable {s' : Shape} {b : Memref sig .tc .vmem s e} {ms : Memref sig .tc .hbm s' e} {r₀ r₁ : Rect s} {x₀ x₁ : DmaSem sig}
  {g : Buf (Elt F) (ms.view.loc (c : Thread nD τ))}

/-- Two free slots, from the buffer, the two semaphores and the array they are filled from. -/
theorem slots_in (h : ∀ i : s.Idx, i ∈ r₁.set ↔ i ∉ r₀.set) (hs : ms.view.set = Finset.univ) :
    (iprop(someOf c b ∗ semVal ((c : Thread nD τ), .dma x₀) 0 ∗ semVal ((c : Thread nD τ), .dma x₁) 0 ∗ (ms.view.loc (c : Thread nD τ) ↦{fullShare} g)) : sProp 𝕄)
      ⊢ iprop(slotFree c b r₀ x₀ ms (qsh 0) g ∗ slotFree c b r₁ x₁ ms (qsh 1) g) := by
  unfold someOf slotFree
  rw [hs]
  iintro ⟨⟨%f, H⟩, Hs0, Hs1, Hg⟩
  ihave H := (slots_split c h) $$ H
  icases H with ⟨H0, H1⟩
  ihave Hg := (pointsTo_share (PosShare.mem_left_op_right fullShare)).1 $$ Hg
  icases Hg with ⟨Hg0, Hg1⟩
  isplitl [H0 Hs0 Hg0]
  · isplitl [H0]; · iexact H0
    isplitl [Hs0]; · iexact Hs0
    iexact Hg0
  · isplitl [H1]; · iexact H1
    isplitl [Hs1]; · iexact Hs1
    iexact Hg1

theorem slots_out (h : ∀ i : s.Idx, i ∈ r₁.set ↔ i ∉ r₀.set) (hs : ms.view.set = Finset.univ) :
    (iprop(slotFree c b r₀ x₀ ms (qsh 0) g ∗ slotFree c b r₁ x₁ ms (qsh 1) g) : sProp 𝕄)
      ⊢ iprop(someOf c b ∗ semVal ((c : Thread nD τ), .dma x₀) 0 ∗ semVal ((c : Thread nD τ), .dma x₁) 0 ∗ (ms.view.loc (c : Thread nD τ) ↦{fullShare} g)) := by
  unfold someOf slotFree
  rw [hs]
  iintro ⟨⟨H0, Hs0, Hg0⟩, ⟨H1, Hs1, Hg1⟩⟩
  isplitl [H0 H1]
  · iapply (slots_join c h)
    isplitl [H0]; · iexact H0
    iexact H1
  isplitl [Hs0]; · iexact Hs0
  isplitl [Hs1]; · iexact Hs1
  iapply (pointsTo_share (PosShare.mem_left_op_right fullShare)).2
  isplitl [Hg0]; · iexact Hg0
  iexact Hg1

end Buffers

/-- The two slots of a buffer are the two halves of it. -/
theorem halves {n1 n2 : ℕ} {inb : ∀ k : Fin 2, ∀ a, (![k.val, 0, 0] : Fin 3 → ℕ) a + (![1, n1, n2] : Fin 3 → ℕ) a ≤ (![2, n1, n2] : Fin 3 → ℕ) a} (i : (⟨3, ![2, n1, n2]⟩ : Shape).Idx) :
    i ∈ (Rect.unit (s := ⟨3, ![2, n1, n2]⟩) ![(1 : Fin 2).val, 0, 0] ![1, n1, n2] (inb 1)).set
      ↔ i ∉ (Rect.unit (s := ⟨3, ![2, n1, n2]⟩) ![(0 : Fin 2).val, 0, 0] ![1, n1, n2] (inb 0)).set := by
  have hk : ∀ k : Fin 2, i ∈ (Rect.unit (s := ⟨3, ![2, n1, n2]⟩) ![k.val, 0, 0] ![1, n1, n2] (inb k)).set ↔ (i 0).val = k.val := by
    intro k
    have h1 : (i 1).val < n1 := (i 1).isLt
    have h2 : (i 2).val < n2 := (i 2).isLt
    rw [Rect.mem_set_unit]
    constructor
    · intro h
      have h0 := h 0
      change k.val ≤ (i 0).val ∧ (i 0).val < k.val + 1 at h0
      omega
    · intro h a
      fin_cases a
      · show k.val ≤ (i 0).val ∧ (i 0).val < k.val + 1; omega
      · show 0 ≤ (i 1).val ∧ (i 1).val < 0 + n1; omega
      · show 0 ≤ (i 2).val ∧ (i 2).val < 0 + n2; omega
  rw [hk, hk]
  have h2 : (i 0).val < 2 := (i 0).isLt
  show (i 0).val = 1 ↔ ¬ (i 0).val = 0
  omega

theorem halves_strip (i : S2x2048x256.Idx) : i ∈ (rSb 1).set ↔ i ∉ (rSb 0).set := halves i
theorem halves_w (i : S2x128x2048.Idx) : i ∈ (rW 1).set ↔ i ∉ (rW 0).set := halves i

/-! ## The exchange's steps -/

section Exchange

variable (K : Dev nD × Fin 5 → ℕ) (c : Dev nD) {Q : PUnit → sProp (MT nD τ sig Unit (Elt F) ℕ UU ℕ)}

theorem inv_own (k : Fin 5) : (invs m ρ K c : sProp 𝕄) ⊢ cellInv ER (Rd m ρ) (K (c, k)) (kcell (c, k)) := by
  unfold invs
  exact sep_elim_left.trans (bigSep_elim (Finset.mem_univ k))
theorem inv_ptn (k : Fin 5) : (invs m ρ K c : sProp 𝕄) ⊢ cellInv ER (Rd m ρ) (K (ptn c, k)) (kcell (ptn c, k)) := by
  unfold invs
  exact sep_elim_right.trans (bigSep_elim (Finset.mem_univ k))
theorem mark_at (ck : Dev nD × Fin 5) : (marks : sProp 𝕄) ⊢ reached ER (kcell ck) 0 := by
  unfold marks
  exact bigSep_elim (Finset.mem_univ ck)

/-- Send a buffer to the partner: the leaving's credit comes back. -/
theorem send_run (n : Dev nD) (hn : n = ptn c) (i₁ i₂ : Fin 5) {s : Shape} {e : EltTy} {src dst : Memref sig .tc .vmem s e} {T : s.Idx → Elt F e}
    {x y : DmaSem sig} (hx : csem i₁ = .dma x) (hy : csem i₂ = .dma y)
    {hsc : dst.view.ref.isScScratch = false}
    {hsrc : src.view.WordExact} {hdst : dst.view.WordExact}
    {hsem : DmaTarget.Typed .vmem (.dma y) (.remote (Dev.tc n : Thread nD τ) dst (.dma x) hsc)}
    (h₁ : amt i₁ = dst.view.dmaCredit) (h₂ : amt i₂ = dst.view.dmaCredit)
    (hp₁ : (held c src T allB : sProp 𝕄) ⊢ pay m ρ c i₁) (hp₂ : (held (ptn c) dst T allB : sProp 𝕄) ⊢ pay m ρ (ptn c) i₂)
    (O : CellTallies nD τ sig Unit) (W : Waits sig Unit) (k : PUnit → P F) :
    (iprop(invs m ρ K c ∗ marks ∗ held c src T allB ∗ someOf (ptn c) dst ∗ owes (c : Thread nD τ) (O + tallyAt (kcell (ptn c, i₂)) () dst.view.dmaCredit) W
        ∗ dutyTok ER (kcell (c, i₁)) 0 () ∗ dutyTok ER (kcell (ptn c, i₂)) 0 ()
        ∗ (iprop(cred (tallyAt (kcell (c, i₁)) () dst.view.dmaCredit) ∗ owes (c : Thread nD τ) O W) -∗ run (defs₀ (F := F)) 𝒱₀ c Q (k ⟨⟩))) : sProp 𝕄)
      ⊢ run (defs₀ (F := F)) 𝒱₀ c Q (.op (.enqueueDma src (.remote (Dev.tc n : Thread nD τ) dst (.dma x) hsc) (.dma y) hsrc hdst hsem) k) := by
  subst hn
  have e₁ : kcell (c, i₁) = ((c : Thread nD τ), .dma x) := congrArg (Prod.mk _) hx
  have e₂ : kcell (ptn c, i₂) = ((ptn c : Thread nD τ), .dma y) := congrArg (Prod.mk _) hy
  have d₁ := duties_mem m ρ (c, i₁)
  have d₂ := duties_mem m ρ (ptn c, i₂)
  have a₁ := (amount_kcell m ρ (c, i₁)).trans h₁
  have a₂ := (amount_kcell m ρ (ptn c, i₂)).trans h₂
  have p₁ := payload_kcell m ρ (c, i₁)
  have p₂ := payload_kcell m ρ (ptn c, i₂)
  iintro ⟨#HI, #HM, Hs, Hd, HO, Ht1, Ht2, Hk⟩
  rw [e₁] at d₁ a₁ p₁
  rw [e₂] at d₂ a₂ p₂
  rw [e₁, e₂]
  unfold held someOf
  icases Hs with ⟨%fs, %hfs, Hs⟩
  icases Hd with ⟨%fd, Hd⟩
  have q₁ : (src.view.loc (c : Thread nD τ) ↦[src.view.set]{fullShare} fs : sProp 𝕄) ⊢ (Rd m ρ).payload ((c : Thread nD τ), .dma x) 0 () := by
    refine BIBase.Entails.trans ?_ (hp₁.trans (BIBase.Entails.of_eq p₁.symm))
    unfold held
    iintro H; iexists fs; isplitr; · ipureintro; exact hfs
    iexact H
  have q₂ : (dst.view.loc (ptn c : Thread nD τ) ↦[dst.view.set]{fullShare} (dst.view.write (Elt F) fd (src.view.read (Elt F) fs) Finset.univ) : sProp 𝕄)
      ⊢ (Rd m ρ).payload ((ptn c : Thread nD τ), .dma y) 0 () := by
    refine BIBase.Entails.trans ?_ (hp₂.trans (BIBase.Entails.of_eq p₂.symm))
    unfold held
    iintro H; iexists _; isplitr
    rotate_left
    · iexact H
    ipureintro; intro i _
    rw [View.read_write_univ]
    exact hfs i trivial
  iapply (Rounds.wp_send_pointsTo 𝒱₀ ER (Rd m ρ) (c : Thread nD τ) none (κ₁ := K (c, i₁)) (κ₂ := K (ptn c, i₂))
    (r₁ := 0) (r₂ := 0) (d₁ := ()) (d₂ := ()) (fs := fs) (fd := fd) (q := fullShare) d₁ d₂ () () dst.view.dmaCredit rfl a₁ a₂ O rfl (W := W)
    q₁ q₂) $$ [Hs Hd HO Ht1 Ht2]
  · isplitr; · rw [← e₁]; iapply (inv_own m ρ K c i₁); iexact HI
    isplitr; · rw [← e₂]; iapply (inv_ptn m ρ K c i₂); iexact HI
    isplitl [Hs]; · iexact Hs
    isplitl [Hd]; · iexact Hd
    isplitl [HO]; · iexact HO
    isplitl [Ht1]; · iexact Ht1
    isplitr; · rw [← e₁]; iapply (mark_at (F := F) (c, i₁)); iexact HM
    isplitl [Ht2]; · iexact Ht2
    rw [← e₂]; iapply (mark_at (F := F) (ptn c, i₂)); iexact HM
  iexact Hk

/-- Wait for one of the exchange's cells: what its duty hands over, and the semaphore, back at zero. -/
theorem wait_run (i : Fin 5) {w : TpuEff nD τ sig (Elt F) Λ₀ .tc PUnit}
    (hw : ∀ R : PUnit → sProp 𝕄, wpE (defs₀ (F := F)) 𝒱₀ (c : Thread nD τ) none Set.univ w R = waitSpec (c : Thread nD τ) Set.univ (csem i) (amt i) R)
    (O : CellTallies nD τ sig Unit) (W : Waits sig Unit) (hO : (levAts L lv : sProp 𝕄) ⊢ MayWait (c : Thread nD τ) (csem i) () O) (k : PUnit → P F) :
    (iprop(invs m ρ K c ∗ levAts L lv ∗ cred (tallyAt (kcell (c, i)) () (amt i)) ∗ owes (c : Thread nD τ) O W ∗ atPos ER (kcell (c, i)) 0 ∅ 0
        ∗ (iprop(owes (c : Thread nD τ) O (insert (csem i, ()) W) ∗ semVal (kcell (c, i)) 0 ∗ pay m ρ c i) -∗ run (defs₀ (F := F)) 𝒱₀ c Q (k ⟨⟩))) : sProp 𝕄)
      ⊢ run (defs₀ (F := F)) 𝒱₀ c Q (.op w k) := by
  iintro ⟨#HI, #Hlev, Hc, HO, Hat, Hk⟩
  have hx : 0 + amt i = (Rd m ρ).expect (kcell (c, i)) 0 := by rw [Nat.zero_add]; exact (expect_kcell m ρ (c, i)).symm
  iapply (Rounds.wp_wait_rest_token 𝒱₀ ER (Rd m ρ) (c : Thread nD τ) none (κ := K (c, i)) (sm := csem i)
      hw (Set.mem_univ _) () (O := O) (W := W) (R := 0) (m := 0) (T := ∅) hx) $$ [Hc HO Hat]
  · isplitr; · iapply (inv_own m ρ K c i); iexact HI
    isplitl [Hc]; · iexact Hc
    isplitl [HO]; · iexact HO
    isplitr; · iapply hO; iexact Hlev
    iexact Hat
  iintro ⟨HO, Hat, -, Hpay⟩
  ihave Hp := (BIBase.Entails.of_eq (rest_kcell m ρ (c, i))) $$ Hpay
  imod (Rounds.cell_close ER (Rd m ρ) (Set.mem_univ (K (c, i))) (fun h => h) (R := 0 + 1) (duties_later m ρ (kcell (c, i)))) $$ [Hat] with Hz
  · isplitr; · iapply (inv_own m ρ K c i); iexact HI
    iexact Hat
  iapply Hk
  isplitl [HO]; · iexact HO
  isplitl [Hz]; · iexact Hz
  iexact Hp

set_option maxHeartbeats 2000000 in
/-- The prologue: the first strip under way, the handshake, the device's weights and latent made and sent. -/
theorem prologue_run (W : Waits sig Unit) (k : P F) :
    (iprop(invs m ρ K c ∗ marks ∗ levAts L lv ∗ owes (c : Thread nD τ) (O₀ c) W ∗ cred (tallyAt (kcell (c, 0)) () 1) ∗ atPos ER (kcell (c, 0)) 0 ∅ 0
        ∗ payToks c ∗ stripFree c aWQ bStrip cc0_scratch14 (memWQ m ρ c) 0
        ∗ (held c aX (inX m ρ c) allB ∗ held c aWD (inWD m ρ c) allB ∗ held c aWK (inWK m ρ c) allB ∗ held c aWV (inWV m ρ c) allB)
        ∗ (someOf c bX ∗ someOf c bCs ∗ someOf c bCo ∗ someOf c bWs ∗ someOf c bWo)
        ∗ (iprop(stripFly c aWQ bStrip cc0_scratch14 (memWQ m ρ c) 0 ∗ owesNone c ∗ semVal (kcell (c, 0)) 0
            ∗ cred (tallyAt (kcell (c, 1)) () N0) ∗ cred (tallyAt (kcell (c, 3)) () N1)
            ∗ (held c aX (inX m ρ c) allB ∗ held c aWD (inWD m ρ c) allB ∗ held c aWK (inWK m ρ c) allB ∗ held c aWV (inWV m ρ c) allB)
            ∗ held c bX (tRow.val (xbB (inX m ρ c))) (tRow.on allB)) -∗ run (defs₀ (F := F)) 𝒱₀ c Q k)) : sProp 𝕄)
      ⊢ run (defs₀ (F := F)) 𝒱₀ c Q (prologue aX aWD aWK aWV aWQ bX (Memref.isWhole_whole _) bCs (Memref.isWhole_whole _) bCo (Memref.isWhole_whole _)
          bWs (Memref.isWhole_whole _) bWo (Memref.isWhole_whole _) bStrip cc0_scratch12 cc0_scratch13 cc0_scratch14 k) := by
  have hsig : () ∈ (Rd (F := F) m ρ).duties ((ptn c : Thread nD τ), .reg barS) 0 := duties_mem m ρ (ptn c, 0)
  have hamt : (Rd (F := F) m ρ).amount ((ptn c : Thread nD τ), .reg barS) 0 () = 1 := amount_kcell m ρ (ptn c, 0)
  have hpay : (Rd (F := F) m ρ).payload ((ptn c : Thread nD τ), .reg barS) 0 () = pay m ρ (ptn c) 0 := payload_kcell m ρ (ptn c, 0)
  have hw0 : (held c bWs (tW.val (wsB (inWK m ρ c) (inWV m ρ c))) (tW.on fun x => x = 1 ∨ (x = 0 ∨ False)) : sProp 𝕄) ⊢ held c bWs (wsAt m ρ c) allB :=
    tile_all c tW (by decide)
  have hc0 : (held c bCs (tC.val (csB (inX m ρ c) (inWD m ρ c))) (tC.on fun x => x = 1 ∨ (x = 0 ∨ False)) : sProp 𝕄) ⊢ held c bCs (csAt m ρ c) allB :=
    tile_all c tC (by decide)
  have hx0 : (held c bX (tRow.val (xbB (inX m ρ c))) (tRow.on fun x => x = 1 ∨ (x = 0 ∨ False)) : sProp 𝕄) ⊢ held c bX (tRow.val (xbB (inX m ρ c))) (tRow.on allB) :=
    tile_mono c tRow fun b _ => ⟨by revert b; decide, rfl⟩
  unfold prologue run
  simp only [wp_deviceId]
  iintro ⟨#HI, #HM, #Hlev, HO, HcB, HatB, Htok, Hstrip, ⟨HX, HWD, HWK, HWV⟩, ⟨HbX, HbCs, HbCo, HbWs, HbWo⟩, Hk⟩
  unfold payToks
  icases Htok with ⟨Ht0, Ht1, Ht2, Ht3, Ht4⟩
  iapply (stripStart_run 𝒱₀ c aWQ bStrip cc0_scratch14 (memWQ m ρ c) 0 _)
  isplitl [Hstrip]; · iexact Hstrip
  iintro Hfly
  simp only [dev1_ptn c]
  unfold run
  iapply (Rounds.wp_signal 𝒱₀ ER (Rd m ρ) (c : Thread nD τ) none (dst := (ptn c : Thread nD τ)) (κ := K (ptn c, 0)) (d := ()) hsig hamt () (O₁ c) rfl)
    $$ [HO Ht0 HbCo HbWo]
  · isplitr; · iapply (inv_ptn m ρ K c 0); iexact HI
    isplitl [HO]; · iexact HO
    isplitl [Ht0]; · iexact Ht0
    isplitl [HbCo HbWo]
    · rw [hpay]; unfold pay; rw [ptn_ptn]
      isplitl [HbCo HbWo]
      · isplitl [HbWo] <;> iassumption
      isplitr; · iapply (mark_at (F := F) (c, 2)); iexact HM
      iapply (mark_at (F := F) (c, 4)); iexact HM
    · iapply (mark_at (F := F) (ptn c, 0)); iexact HM
  iintro HO
  iapply (wait_run m ρ K c 0 (wpE_semWait_eq 𝒱₀ (c : Thread nD τ) none Set.univ) (O₁ c) W (mayWait_bar c))
  isplitr; · iexact HI
  isplitr; · iexact Hlev
  isplitl [HcB]; · iexact HcB
  isplitl [HO]; · iexact HO
  isplitl [HatB]; · iexact HatB
  iintro ⟨HO, HzB, Hp⟩
  unfold pay
  icases Hp with ⟨⟨HpWo, HpCo⟩, -, -⟩
  ihave HbWs := (someOf_held c (T := tW.val (wsB (inWK m ρ c) (inWV m ρ c))) (tiles_none tW)) $$ HbWs
  iapply (wStep_run 𝒱₀ c bWs (Memref.isWhole_whole _) aWK (inWK m ρ c) (inWV m ρ c) (inWK m ρ c) 0 rfl (fun _ => False) _)
  isplitl [HWK]; · iexact HWK
  isplitl [HbWs]; · iexact HbWs
  iintro ⟨HWK, HbWs⟩
  iapply (wStep_run 𝒱₀ c bWs (Memref.isWhole_whole _) aWV (inWK m ρ c) (inWV m ρ c) (inWV m ρ c) 1 rfl (fun x => x = 0 ∨ False) _)
  isplitl [HWV]; · iexact HWV
  isplitl [HbWs]; · iexact HbWs
  iintro ⟨HWV, HbWs⟩
  ihave HbWs := hw0 $$ HbWs
  unfold O₁
  iapply (send_run m ρ K c _ (dev2_ptn c) 1 2 (src := bWs) (dst := bWo) (T := wsAt m ρ c) rfl rfl rfl rfl (BIBase.Entails.rfl)
    (by unfold pay; rw [ptn_ptn]) (O₂ c) _ _)
  isplitr; · iexact HI
  isplitr; · iexact HM
  isplitl [HbWs]; · iexact HbWs
  isplitl [HpWo]; · iexact HpWo
  isplitl [HO]; · iexact HO
  isplitl [Ht1]; · iexact Ht1
  isplitl [Ht2]; · iexact Ht2
  iintro ⟨Hc1, HO⟩
  iapply (held_load 𝒱₀ c (m := aWD) (D := allB) (fun _ => trivial)) $$ HWD
  iintro HWD
  rw [show (fun j => inWD m ρ c ((Rect.unit ![0, 0] S2048x128.size inb_S2048x128_S2048x128_0_0).emb j)) = inWD m ρ c from
    funext fun j => congrArg (inWD m ρ c) (emb_zero2 _)]
  ihave HbX := (someOf_held c (T := tRow.val (xbB (inX m ρ c))) (tiles_none tRow)) $$ HbX
  ihave HbCs := (someOf_held c (T := tC.val (csB (inX m ρ c) (inWD m ρ c))) (tiles_none tC)) $$ HbCs
  iapply (cStep_run 𝒱₀ c aX bX (Memref.isWhole_whole _) bCs (Memref.isWhole_whole _) (inX m ρ c) (inWD m ρ c) 0 (fun _ => False) _)
  isplitl [HX]; · iexact HX
  isplitl [HbX]; · iexact HbX
  isplitl [HbCs]; · iexact HbCs
  iintro ⟨HX, HbX, HbCs⟩
  iapply (cStep_run 𝒱₀ c aX bX (Memref.isWhole_whole _) bCs (Memref.isWhole_whole _) (inX m ρ c) (inWD m ρ c) 1 (fun x => x = 0 ∨ False) _)
  isplitl [HX]; · iexact HX
  isplitl [HbX]; · iexact HbX
  isplitl [HbCs]; · iexact HbCs
  iintro ⟨HX, HbX, HbCs⟩
  ihave HbCs := hc0 $$ HbCs
  ihave HbX := hx0 $$ HbX
  unfold O₂
  iapply (send_run m ρ K c _ (dev3_ptn c) 3 4 (src := bCs) (dst := bCo) (T := csAt m ρ c) rfl rfl rfl rfl (BIBase.Entails.rfl)
    (by unfold pay; rw [ptn_ptn]) 0 _ _)
  isplitr; · iexact HI
  isplitr; · iexact HM
  isplitl [HbCs]; · iexact HbCs
  isplitl [HpCo]; · iexact HpCo
  isplitl [HO]; · rw [zero_add]; iexact HO
  isplitl [Ht3]; · iexact Ht3
  isplitl [Ht4]; · iexact Ht4
  iintro ⟨Hc3, HO⟩
  iapply Hk
  isplitl [Hfly]; · iexact Hfly
  isplitl [HO]; · unfold owesNone; iexists _; iexact HO
  isplitl [HzB]; · iexact HzB
  isplitl [Hc1]; · iexact Hc1
  isplitl [Hc3]; · iexact Hc3
  isplitl [HX HWD HWK HWV]
  · isplitl [HX]; · iexact HX
    isplitl [HWD]; · iexact HWD
    isplitl [HWK] <;> iassumption
  iexact HbX

set_option maxHeartbeats 2000000 in
/-- The exchange's four waits. -/
theorem waits_run (k : P F) :
    (iprop(invs m ρ K c ∗ levAts L lv ∗ owesNone c
        ∗ (cred (tallyAt (kcell (c, 1)) () N0) ∗ cred (tallyAt (kcell (c, 2)) () N0) ∗ cred (tallyAt (kcell (c, 3)) () N1) ∗ cred (tallyAt (kcell (c, 4)) () N1))
        ∗ (atPos ER (kcell (c, 1)) 0 ∅ 0 ∗ atPos ER (kcell (c, 2)) 0 ∅ 0 ∗ atPos ER (kcell (c, 3)) 0 ∅ 0 ∗ atPos ER (kcell (c, 4)) 0 ∅ 0)
        ∗ (iprop(owesNone c ∗ (semVal (kcell (c, 1)) 0 ∗ semVal (kcell (c, 2)) 0 ∗ semVal (kcell (c, 3)) 0 ∗ semVal (kcell (c, 4)) 0)
            ∗ held c bCs (csAt m ρ c) allB ∗ held c bCo (csAt m ρ (ptn c)) allB ∗ held c bWs (wsAt m ρ c) allB ∗ held c bWo (wsAt m ρ (ptn c)) allB)
          -∗ run (defs₀ (F := F)) 𝒱₀ c Q k)) : sProp 𝕄)
      ⊢ run (defs₀ (F := F)) 𝒱₀ c Q (waits bCs (Memref.isWhole_whole _) bCo (Memref.isWhole_whole _)
          bWs (Memref.isWhole_whole _) bWo (Memref.isWhole_whole _) cc0_scratch12 cc0_scratch13 k) := by
  have hz : ∀ i : Fin 5, (levAts L lv : sProp 𝕄) ⊢ MayWait (c : Thread nD τ) (csem i) () 0 := fun i => by
    rw [MayWait_zero]; iintro -; iempintro
  have hw1 : ∀ a b, ∀ R : PUnit → sProp 𝕄, wpE (defs₀ (F := F)) 𝒱₀ (c : Thread nD τ) none Set.univ
      (.waitDma2 (sm cc0_scratch12 0) bWo bWs a b) R = waitSpec (c : Thread nD τ) Set.univ (csem 1) (amt 1) R := fun a b R => by
    rw [wpE_waitDma2_eq 𝒱₀ (c : Thread nD τ) none Set.univ, show bWs.view.dmaCredit = amt 1 from rfl]
  have hw2 : ∀ a b, ∀ R : PUnit → sProp 𝕄, wpE (defs₀ (F := F)) 𝒱₀ (c : Thread nD τ) none Set.univ
      (.waitDma2 (sm cc0_scratch13 0) bWs bWo a b) R = waitSpec (c : Thread nD τ) Set.univ (csem 2) (amt 2) R := fun a b R => by
    rw [wpE_waitDma2_eq 𝒱₀ (c : Thread nD τ) none Set.univ, show bWo.view.dmaCredit = amt 2 from rfl]
  have hw3 : ∀ a b, ∀ R : PUnit → sProp 𝕄, wpE (defs₀ (F := F)) 𝒱₀ (c : Thread nD τ) none Set.univ
      (.waitDma2 (sm cc0_scratch12 1) bCo bCs a b) R = waitSpec (c : Thread nD τ) Set.univ (csem 3) (amt 3) R := fun a b R => by
    rw [wpE_waitDma2_eq 𝒱₀ (c : Thread nD τ) none Set.univ, show bCs.view.dmaCredit = amt 3 from rfl]
  have hw4 : ∀ a b, ∀ R : PUnit → sProp 𝕄, wpE (defs₀ (F := F)) 𝒱₀ (c : Thread nD τ) none Set.univ
      (.waitDma2 (sm cc0_scratch13 1) bCs bCo a b) R = waitSpec (c : Thread nD τ) Set.univ (csem 4) (amt 4) R := fun a b R => by
    rw [wpE_waitDma2_eq 𝒱₀ (c : Thread nD τ) none Set.univ, show bCo.view.dmaCredit = amt 4 from rfl]
  unfold waits owesNone
  iintro ⟨#HI, #Hlev, ⟨%W, HO⟩, ⟨Hc1, Hc2, Hc3, Hc4⟩, ⟨Ha1, Ha2, Ha3, Ha4⟩, Hk⟩
  iapply (wait_run m ρ K c 1 (hw1 _ _) 0 _ (hz 1))
  isplitr; · iexact HI
  isplitr; · iexact Hlev
  isplitl [Hc1]; · iexact Hc1
  isplitl [HO]; · iexact HO
  isplitl [Ha1]; · iexact Ha1
  iintro ⟨HO, Hz1, Hp1⟩
  iapply (wait_run m ρ K c 2 (hw2 _ _) 0 _ (hz 2))
  isplitr; · iexact HI
  isplitr; · iexact Hlev
  isplitl [Hc2]; · iexact Hc2
  isplitl [HO]; · iexact HO
  isplitl [Ha2]; · iexact Ha2
  iintro ⟨HO, Hz2, Hp2⟩
  iapply (wait_run m ρ K c 3 (hw3 _ _) 0 _ (hz 3))
  isplitr; · iexact HI
  isplitr; · iexact Hlev
  isplitl [Hc3]; · iexact Hc3
  isplitl [HO]; · iexact HO
  isplitl [Ha3]; · iexact Ha3
  iintro ⟨HO, Hz3, Hp3⟩
  iapply (wait_run m ρ K c 4 (hw4 _ _) 0 _ (hz 4))
  isplitr; · iexact HI
  isplitr; · iexact Hlev
  isplitl [Hc4]; · iexact Hc4
  isplitl [HO]; · iexact HO
  isplitl [Ha4]; · iexact Ha4
  iintro ⟨HO, Hz4, Hp4⟩
  iapply Hk
  isplitl [HO]; · iexists _; iexact HO
  isplitl [Hz1 Hz2 Hz3 Hz4]
  · isplitl [Hz1]; · iexact Hz1
    isplitl [Hz2]; · iexact Hz2
    isplitl [Hz3] <;> iassumption
  unfold pay
  isplitl [Hp3]; · iexact Hp3
  isplitl [Hp4]; · iexact Hp4
  isplitl [Hp1]; · iexact Hp1
  iexact Hp2

/-- The inputs' windows, as fetched. -/
def insHeld : sProp 𝕄 :=
  iprop((held c aX (inX m ρ c) allB ∗ held c aWD (inWD m ρ c) allB ∗ held c aWK (inWK m ρ c) allB ∗ held c aWV (inWV m ρ c) allB)
    ∗ held c aWR (inWR m ρ c) allB ∗ held c aWE (inWE m ρ c) allB)

theorem strip_in : (iprop(someOf c bStrip ∗ semVal ((c : Thread nD τ), osem 4) 0 ∗ semVal ((c : Thread nD τ), osem 5) 0
      ∗ (((c : Thread nD τ).loc main_arg4) ↦{fullShare} (s₀ m ρ).mem ((c : Thread nD τ).loc main_arg4))) : sProp 𝕄)
    ⊢ iprop(stripFree c aWQ bStrip cc0_scratch14 (memWQ m ρ c) 0 ∗ stripFree c aWQ bStrip cc0_scratch14 (memWQ m ρ c) 1) :=
  slots_in c (b := bStrip) (ms := aWQ) (g := memWQ m ρ c) halves_strip (View.set_whole _)

theorem strip_out : (iprop(stripFree c aWQ bStrip cc0_scratch14 (memWQ m ρ c) 0 ∗ stripFree c aWQ bStrip cc0_scratch14 (memWQ m ρ c) 1) : sProp 𝕄)
    ⊢ iprop(someOf c bStrip ∗ semVal ((c : Thread nD τ), osem 4) 0 ∗ semVal ((c : Thread nD τ), osem 5) 0
      ∗ (((c : Thread nD τ).loc main_arg4) ↦{fullShare} (s₀ m ρ).mem ((c : Thread nD τ).loc main_arg4))) :=
  slots_out c (b := bStrip) (ms := aWQ) (g := memWQ m ρ c) halves_strip (View.set_whole _)

theorem wo_in : (iprop(someOf c bHead ∗ semVal ((c : Thread nD τ), osem 6) 0 ∗ semVal ((c : Thread nD τ), osem 7) 0
      ∗ (((c : Thread nD τ).loc main_arg7) ↦{fullShare} (s₀ m ρ).mem ((c : Thread nD τ).loc main_arg7))) : sProp 𝕄)
    ⊢ iprop(woFree c aWO bHead cc0_scratch15 (memWO m ρ c) 0 ∗ woFree c aWO bHead cc0_scratch15 (memWO m ρ c) 1) :=
  slots_in c (b := bHead) (ms := aWO) (g := memWO m ρ c) halves_w (View.set_whole _)

theorem wo_out : (iprop(woFree c aWO bHead cc0_scratch15 (memWO m ρ c) 0 ∗ woFree c aWO bHead cc0_scratch15 (memWO m ρ c) 1) : sProp 𝕄)
    ⊢ iprop(someOf c bHead ∗ semVal ((c : Thread nD τ), osem 6) 0 ∗ semVal ((c : Thread nD τ), osem 7) 0
      ∗ (((c : Thread nD τ).loc main_arg7) ↦{fullShare} (s₀ m ρ).mem ((c : Thread nD τ).loc main_arg7))) :=
  slots_out c (b := bHead) (ms := aWO) (g := memWO m ρ c) halves_w (View.set_whole _)

set_option maxHeartbeats 2000000 in
/-- The whole body, from what a device is launched with. -/
theorem sound_body (W : Waits sig Unit) :
    (iprop(ghost m ρ K c ∗ creds c ∗ levAts L lv ∗ restMem m ρ c ∗ scratch c ∗ owes (c : Thread nD τ) (O₀ c) W ∗ insHeld m ρ c ∗ someOf c aOut
        ∗ (iprop(Φ₁ m ρ c ∗ owesNone c ∗ insHeld m ρ c ∗ held c aOut (outAt m ρ c) allB) -∗ Q ⟨⟩)) : sProp 𝕄)
      ⊢ run (defs₀ (F := F)) 𝒱₀ c Q (body aX aWD aWK aWV aWQ aWR aWE aWO aOut (Memref.isWhole_whole _) bX (Memref.isWhole_whole _) bCs (Memref.isWhole_whole _)
          bCo (Memref.isWhole_whole _) bWs (Memref.isWhole_whole _) bWo (Memref.isWhole_whole _) bQ (Memref.isWhole_whole _) bQr (Memref.isWhole_whole _)
          bKr (Memref.isWhole_whole _) bK (Memref.isWhole_whole _) bV (Memref.isWhole_whole _) bStrip bHead cc0_scratch12 cc0_scratch13 cc0_scratch14 cc0_scratch15) := by
  have hq0 : (someOf c bQ : sProp 𝕄) ⊢ held c bQ (tStrip.val (qB (inX m ρ c) (aWQ.view.read (Elt F) (memWQ m ρ c)))) (tStrip.on fun p => p.2.val < 0) :=
    someOf_held c fun _ ⟨_, h, _⟩ => Nat.not_lt_zero _ h
  have hq8 : (held c bQ (tStrip.val (qB (inX m ρ c) (aWQ.view.read (Elt F) (memWQ m ρ c)))) (tStrip.on fun p => p.2.val < 8) : sProp 𝕄)
      ⊢ held c bQ (QQ (inX m ρ c) (aWQ.view.read (Elt F) (memWQ m ρ c))) allB := tile_all c tStrip fun p => p.2.isLt
  have ho0 : ∀ w, (someOf c aOut : sProp 𝕄) ⊢ held c aOut (tOut.val w) (tOut.on fun _ => 0 < 0) := fun w =>
    someOf_held c fun _ ⟨_, h, _⟩ => Nat.not_lt_zero _ h
  have ho16 : ∀ w, (held c aOut (tOut.val w) (tOut.on fun _ => 0 < 16) : sProp 𝕄) ⊢ held c aOut (tOut.val w) allB := fun w =>
    tile_all c tOut fun _ => by decide
  unfold body ghost creds restMem scratch copySems insHeld
  rw [bigSep_fin5]
  iintro ⟨⟨#HI, #HM, ⟨Ha0, Ha1, Ha2, Ha3, Ha4⟩, Htok, ⟨Hs4, Hs5, Hs6, Hs7⟩⟩, ⟨Hc0, Hc2, Hc4⟩, #Hlev, ⟨HmQ, HmO⟩,
    ⟨HbX, HbCs, HbCo, HbWs, HbWo, HbQ, HbQr, HbKr, HbK, HbV, HbS, HbH⟩, HO, ⟨Hin, HWR, HWE⟩, Hout, Hk⟩
  ihave Hstrip := (strip_in m ρ c) $$ [HbS Hs4 Hs5 HmQ]
  · isplitl [HbS]; · iexact HbS
    isplitl [Hs4]; · iexact Hs4
    isplitl [Hs5] <;> iassumption
  icases Hstrip with ⟨Hst0, Hst1⟩
  ihave Hwo := (wo_in m ρ c) $$ [HbH Hs6 Hs7 HmO]
  · isplitl [HbH]; · iexact HbH
    isplitl [Hs6]; · iexact Hs6
    isplitl [Hs7] <;> iassumption
  icases Hwo with ⟨Hwo0, Hwo1⟩
  iapply (prologue_run m ρ K c W _)
  isplitr; · iexact HI
  isplitr; · iexact HM
  isplitr; · iexact Hlev
  isplitl [HO]; · iexact HO
  isplitl [Hc0]; · iexact Hc0
  isplitl [Ha0]; · iexact Ha0
  isplitl [Htok]; · iexact Htok
  isplitl [Hst0]; · iexact Hst0
  isplitl [Hin]; · iexact Hin
  isplitl [HbX HbCs HbCo HbWs HbWo]
  · isplitl [HbX]; · iexact HbX
    isplitl [HbCs]; · iexact HbCs
    isplitl [HbCo]; · iexact HbCo
    isplitl [HbWs] <;> iassumption
  iintro ⟨Hfly, HO, Hz0, Hc1, Hc3, Hin, HbX⟩
  ihave HbQ := hq0 $$ HbQ
  iapply (strips_run 𝒱₀ c aWQ bX bQ (Memref.isWhole_whole _) bStrip cc0_scratch14 (inX m ρ c) (memWQ m ρ c) _)
  isplitl [HO Hfly Hst1 HbX HbQ]
  · unfold stripI
    isplitl [HO]; · iexact HO
    isplitl [Hfly]; · rw [dif_pos (by decide)]; iexact Hfly
    isplitl [Hst1]; · iexact Hst1
    isplitl [HbX] <;> iassumption
  unfold stripI
  rw [dif_neg (by decide)]
  iintro ⟨HO, Hst0, Hst1, HbX, HbQ⟩
  ihave HbQ := hq8 $$ HbQ
  ihave HbQr := (someOf_held c (T := tQr.val (qrB (inX m ρ c) (inWR m ρ c))) (tiles_none tQr)) $$ HbQr
  ihave HbKr := (someOf_held c (T := tKr.val (krB (inX m ρ c) (inWE m ρ c))) (tiles_none tKr)) $$ HbKr
  iapply (rot_run 𝒱₀ c aWR aWE bX bQr (Memref.isWhole_whole _) bKr (Memref.isWhole_whole _) (inX m ρ c) (inWR m ρ c) (inWE m ρ c) _)
  isplitl [HWR]; · iexact HWR
  isplitl [HWE]; · iexact HWE
  isplitl [HbX]; · iexact HbX
  isplitl [HbQr]; · iexact HbQr
  isplitl [HbKr]; · iexact HbKr
  iintro ⟨HWR, HWE, HbX, HbQr, HbKr⟩
  iapply (waits_run m ρ K c _)
  isplitr; · iexact HI
  isplitr; · iexact Hlev
  isplitl [HO]; · iexact HO
  isplitl [Hc1 Hc2 Hc3 Hc4]
  · isplitl [Hc1]; · iexact Hc1
    isplitl [Hc2]; · iexact Hc2
    isplitl [Hc3] <;> iassumption
  isplitl [Ha1 Ha2 Ha3 Ha4]
  · isplitl [Ha1]; · iexact Ha1
    isplitl [Ha2]; · iexact Ha2
    isplitl [Ha3] <;> iassumption
  iintro ⟨HO, ⟨Hz1, Hz2, Hz3, Hz4⟩, HbCs, HbCo, HbWs, HbWo⟩
  ihave HbK := (someOf_held c (T := tTile.val (kvB (csAt m ρ c) (csAt m ρ (ptn c)) (wsAt m ρ c) (wsAt m ρ (ptn c)) 0)) (tiles_none tTile)) $$ HbK
  ihave HbV := (someOf_held c (T := tTile.val (kvB (csAt m ρ c) (csAt m ρ (ptn c)) (wsAt m ρ c) (wsAt m ρ (ptn c)) 1)) (tiles_none tTile)) $$ HbV
  iapply (kv_run 𝒱₀ c bCs bCo bWs bWo bK (Memref.isWhole_whole _) bV (Memref.isWhole_whole _) (csAt m ρ c) (csAt m ρ (ptn c)) (wsAt m ρ c) (wsAt m ρ (ptn c)) _)
  isplitl [HbCs]; · iexact HbCs
  isplitl [HbCo]; · iexact HbCo
  isplitl [HbWs]; · iexact HbWs
  isplitl [HbWo]; · iexact HbWo
  isplitl [HbK]; · iexact HbK
  isplitl [HbV]; · iexact HbV
  iintro ⟨HbCs, HbCo, HbWs, HbWo, HbK, HbV⟩
  iapply (woStart_run 𝒱₀ c aWO bHead cc0_scratch15 (memWO m ρ c) 0 _)
  isplitl [Hwo0]; · iexact Hwo0
  iintro Hfly
  ihave Hout := (ho0 _) $$ Hout
  iapply (heads_run 𝒱₀ c aWO aOut (Memref.isWhole_whole _) bQ bQr bKr bK bV bHead cc0_scratch15 (memWO m ρ c)
    (QQ (inX m ρ c) (aWQ.view.read (Elt F) (memWQ m ρ c))) (KV (csAt m ρ c) (csAt m ρ (ptn c)) (wsAt m ρ c) (wsAt m ρ (ptn c)) 0)
    (KV (csAt m ρ c) (csAt m ρ (ptn c)) (wsAt m ρ c) (wsAt m ρ (ptn c)) 1) (QR (inX m ρ c) (inWR m ρ c)) (KR (inX m ρ c) (inWE m ρ c)) _)
  isplitl [HO Hfly Hwo1 HbQ HbQr HbKr HbK HbV Hout]
  · unfold headI headIn
    isplitl [HO]; · iexact HO
    isplitl [Hfly]; · rw [dif_pos (by decide)]; iexact Hfly
    isplitl [Hwo1]; · iexact Hwo1
    isplitl [HbQ HbQr HbKr HbK HbV]
    · isplitl [HbQ]; · iexact HbQ
      isplitl [HbK]; · iexact HbK
      isplitl [HbQr]; · iexact HbQr
      isplitl [HbKr] <;> iassumption
    iexact Hout
  unfold headI headIn
  rw [dif_neg (by decide)]
  iintro ⟨HO, Hwo0, Hwo1, ⟨HbQ, HbK, HbQr, HbKr, HbV⟩, Hout⟩
  ihave Hout := (ho16 (outB (aWO.view.read (Elt F) (memWO m ρ c)) (obB (QQ (inX m ρ c) (aWQ.view.read (Elt F) (memWQ m ρ c)))
    (KV (csAt m ρ c) (csAt m ρ (ptn c)) (wsAt m ρ c) (wsAt m ρ (ptn c)) 0) (KV (csAt m ρ c) (csAt m ρ (ptn c)) (wsAt m ρ c) (wsAt m ρ (ptn c)) 1)
    (QR (inX m ρ c) (inWR m ρ c)) (KR (inX m ρ c) (inWE m ρ c))) 15)) $$ Hout
  ihave Hstrip := (strip_out m ρ c) $$ [Hst0 Hst1]
  · isplitl [Hst0]; · iexact Hst0
    iexact Hst1
  icases Hstrip with ⟨HbS, Hs4, Hs5, HmQ⟩
  ihave Hwo := (wo_out m ρ c) $$ [Hwo0 Hwo1]
  · isplitl [Hwo0]; · iexact Hwo0
    iexact Hwo1
  icases Hwo with ⟨HbH, Hs6, Hs7, HmO⟩
  unfold run
  rw [wp_ret]; imodintro
  iapply Hk
  isplitr [HO Hin HWR HWE Hout]
  · unfold Φ₁ scratch copySems restMem
    rw [bigSep_fin5]
    isplitr [Hz0 Hz1 Hz2 Hz3 Hz4 Hs4 Hs5 Hs6 Hs7 HmQ HmO]
    · isplitl [HbX]; · iapply (held_someOf c); iexact HbX
      isplitl [HbCs]; · iapply (held_someOf c); iexact HbCs
      isplitl [HbCo]; · iapply (held_someOf c); iexact HbCo
      isplitl [HbWs]; · iapply (held_someOf c); iexact HbWs
      isplitl [HbWo]; · iapply (held_someOf c); iexact HbWo
      isplitl [HbQ]; · iapply (held_someOf c); iexact HbQ
      isplitl [HbQr]; · iapply (held_someOf c); iexact HbQr
      isplitl [HbKr]; · iapply (held_someOf c); iexact HbKr
      isplitl [HbK]; · iapply (held_someOf c); iexact HbK
      isplitl [HbV]; · iapply (held_someOf c); iexact HbV
      isplitl [HbS] <;> iassumption
    isplitl [Hz0 Hz1 Hz2 Hz3 Hz4]
    · isplitl [Hz0]; · iexact Hz0
      isplitl [Hz1]; · iexact Hz1
      isplitl [Hz2]; · iexact Hz2
      isplitl [Hz3] <;> iassumption
    isplitl [Hs4 Hs5 Hs6 Hs7]
    · isplitl [Hs4]; · iexact Hs4
      isplitl [Hs5]; · iexact Hs5
      isplitl [Hs6] <;> iassumption
    isplitl [HmQ] <;> iassumption
  isplitl [HO]; · iexact HO
  isplitl [Hin HWR HWE]
  · isplitl [Hin]; · iexact Hin
    isplitl [HWR] <;> iassumption
  iexact Hout

end Exchange

/-! ## The library's obligation -/

theorem someOf_intro (c : Dev nD) (g : Buf (Elt F) ((c : Thread nD τ).loc cc0_stg6_0)) :
    (((c : Thread nD τ).loc cc0_stg6_0) ↦{fullShare} g : sProp 𝕄) ⊢ someOf c aOut := by
  unfold someOf
  rw [show aOut.view.set = Finset.univ from View.set_whole _]
  iintro H
  iexists g
  iexact H

section Obligation

variable (c : Dev nD)

abbrev t₀ : Fin grid0.N := t0_0

abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

set_option maxRecDepth 100000 in
def bodyPre : sProp 𝕄 :=
  iprop(Φ₀ m ρ c ∗ (dats m ρ 0 c).owesAt () t₀.castSucc
    ∗ (∃ d, stg c cc0_stg0_0 ((dats m ρ 0 c).before (0 : Fin 7) t₀ d))
    ∗ (∃ d, stg c cc0_stg1_0 ((dats m ρ 0 c).before (1 : Fin 7) t₀ d))
    ∗ (∃ d, stg c cc0_stg2_0 ((dats m ρ 0 c).before (2 : Fin 7) t₀ d))
    ∗ (∃ d, stg c cc0_stg3_0 ((dats m ρ 0 c).before (3 : Fin 7) t₀ d))
    ∗ (∃ d, stg c cc0_stg4_0 ((dats m ρ 0 c).before (4 : Fin 7) t₀ d))
    ∗ (∃ d, stg c cc0_stg5_0 ((dats m ρ 0 c).before (5 : Fin 7) t₀ d))
    ∗ (∃ d, stg c cc0_stg6_0 ((dats m ρ 0 c).before (6 : Fin 7) t₀ d)))

def bodyPost : sProp 𝕄 :=
  iprop(Φ₁ m ρ c ∗ (dats m ρ 0 c).owesAt () t₀.succ
    ∗ stg c cc0_stg0_0 (inX m ρ c) ∗ stg c cc0_stg1_0 (inWD m ρ c) ∗ stg c cc0_stg2_0 (inWK m ρ c) ∗ stg c cc0_stg3_0 (inWV m ρ c)
    ∗ stg c cc0_stg4_0 (inWR m ρ c) ∗ stg c cc0_stg5_0 (inWE m ρ c) ∗ stg c cc0_stg6_0 (outAt m ρ c))

set_option maxHeartbeats 1000000 in
set_option maxRecDepth 100000 in
/-- The library's obligation on the body of a device. -/
theorem body_obligation : BodyObligation (dats (F := F) m ρ 0 c) (defs₀ (F := F)) 𝒱₀ () Set.univ := fun t => by
  rw [fin_N0 t]
  rw [bigSep_W0, bigSep_W0]
  simp only [owns_whole_eq]
  show bodyPre m ρ c ⊢ wp frame (wpE (defs₀ (F := F)) 𝒱₀ c none) Set.univ
    (cc0_body aX (Memref.isWhole_whole _) aWD (Memref.isWhole_whole _) aWK (Memref.isWhole_whole _) aWV (Memref.isWhole_whole _) aWQ (Memref.isWhole_whole _)
      aWR (Memref.isWhole_whole _) aWE (Memref.isWhole_whole _) aWO (Memref.isWhole_whole _) aOut (Memref.isWhole_whole _) bX (Memref.isWhole_whole _)
      bCs (Memref.isWhole_whole _) bCo (Memref.isWhole_whole _) bWs (Memref.isWhole_whole _) bWo (Memref.isWhole_whole _) bQ (Memref.isWhole_whole _)
      bQr (Memref.isWhole_whole _) bKr (Memref.isWhole_whole _) bK (Memref.isWhole_whole _) bV (Memref.isWhole_whole _) bStrip (Memref.isWhole_whole _)
      bHead (Memref.isWhole_whole _) cc0_scratch12 cc0_scratch13 cc0_scratch14 cc0_scratch15) (fun _ => bodyPost m ρ c)
  rw [body_eq]
  unfold bodyPre Φ₀ start Dat.owesAt Pipeline.owesWithin
  iintro ⟨⟨⟨⟨%K, Hg⟩, Hcr, Hlev, Hrm⟩, Hscr⟩, ⟨%W, %hW, HO⟩, ⟨%d0, %g0, %h0, H0⟩, ⟨%d1, %g1, %h1, H1⟩, ⟨%d2, %g2, %h2, H2⟩, ⟨%d3, %g3, %h3, H3⟩,
    ⟨%d4, %g4, %h4, H4⟩, ⟨%d5, %g5, %h5, H5⟩, ⟨%d6, %g6, %h6, H6⟩⟩
  rw [show (dats m ρ 0 c).owed t₀.castSucc = O₀ c from rfl]
  have e0 : g0 = inX m ρ c := by rw [h0]; unfold Dat.before; rw [if_pos (fetch0_0 t₀)]; rfl
  subst e0
  have e1 : g1 = inWD m ρ c := by rw [h1]; unfold Dat.before; rw [if_pos (fetch0_1 t₀)]; rfl
  subst e1
  have e2 : g2 = inWK m ρ c := by rw [h2]; unfold Dat.before; rw [if_pos (fetch0_2 t₀)]; rfl
  subst e2
  have e3 : g3 = inWV m ρ c := by rw [h3]; unfold Dat.before; rw [if_pos (fetch0_3 t₀)]; rfl
  subst e3
  have e4 : g4 = inWR m ρ c := by rw [h4]; unfold Dat.before; rw [if_pos (fetch0_4 t₀)]; rfl
  subst e4
  have e5 : g5 = inWE m ρ c := by rw [h5]; unfold Dat.before; rw [if_pos (fetch0_5 t₀)]; rfl
  subst e5
  ihave H0 := (held_of_pts (b := aX) c (View.set_whole _) (View.read_whole _ _)) $$ H0
  ihave H1 := (held_of_pts (b := aWD) c (View.set_whole _) (View.read_whole _ _)) $$ H1
  ihave H2 := (held_of_pts (b := aWK) c (View.set_whole _) (View.read_whole _ _)) $$ H2
  ihave H3 := (held_of_pts (b := aWV) c (View.set_whole _) (View.read_whole _ _)) $$ H3
  ihave H4 := (held_of_pts (b := aWR) c (View.set_whole _) (View.read_whole _ _)) $$ H4
  ihave H5 := (held_of_pts (b := aWE) c (View.set_whole _) (View.read_whole _ _)) $$ H5
  iapply (sound_body m ρ K c (Q := fun _ => bodyPost m ρ c) W)
  isplitl [Hg]; · iexact Hg
  isplitl [Hcr]; · iexact Hcr
  isplitl [Hlev]; · iexact Hlev
  isplitl [Hrm]; · iexact Hrm
  isplitl [Hscr]; · iexact Hscr
  isplitl [HO]; · iexact HO
  isplitl [H0 H1 H2 H3 H4 H5]
  · unfold insHeld
    isplitl [H0 H1 H2 H3]
    · isplitl [H0]; · iexact H0
      isplitl [H1]; · iexact H1
      isplitl [H2]; · iexact H2
      iexact H3
    isplitl [H4]; · iexact H4
    iexact H5
  isplitl [H6]; · iapply (someOf_intro c g6); iexact H6
  unfold insHeld owesNone bodyPost Dat.owesAt Pipeline.owesWithin
  rw [show (dats m ρ 0 c).owed t₀.succ = 0 from rfl]
  iintro ⟨HΦ, ⟨%W', HO⟩, ⟨⟨H0, H1, H2, H3⟩, H4, H5⟩, H6⟩
  isplitl [HΦ]; · iexact HΦ
  isplitl [HO]
  · iexists W'
    isplitr; · ipureintro; exact fun _ _ => Or.inl trivial
    iexact HO
  ihave H0 := (pts_of_held (b := aX) c (View.set_whole _)) $$ H0
  icases H0 with ⟨%f0, %q0, H0⟩
  ihave H1 := (pts_of_held (b := aWD) c (View.set_whole _)) $$ H1
  icases H1 with ⟨%f1, %q1, H1⟩
  ihave H2 := (pts_of_held (b := aWK) c (View.set_whole _)) $$ H2
  icases H2 with ⟨%f2, %q2, H2⟩
  ihave H3 := (pts_of_held (b := aWV) c (View.set_whole _)) $$ H3
  icases H3 with ⟨%f3, %q3, H3⟩
  ihave H4 := (pts_of_held (b := aWR) c (View.set_whole _)) $$ H4
  icases H4 with ⟨%f4, %q4, H4⟩
  ihave H5 := (pts_of_held (b := aWE) c (View.set_whole _)) $$ H5
  icases H5 with ⟨%f5, %q5, H5⟩
  ihave H6 := (pts_of_held (b := aOut) c (View.set_whole _)) $$ H6
  icases H6 with ⟨%f6, %q6, H6⟩
  isplitl [H0]
  · iexists _; isplitr; · (ipureintro; exact (View.read_whole _ _).symm.trans q0)
    iexact H0
  isplitl [H1]
  · iexists _; isplitr; · (ipureintro; exact (View.read_whole _ _).symm.trans q1)
    iexact H1
  isplitl [H2]
  · iexists _; isplitr; · (ipureintro; exact (View.read_whole _ _).symm.trans q2)
    iexact H2
  isplitl [H3]
  · iexists _; isplitr; · (ipureintro; exact (View.read_whole _ _).symm.trans q3)
    iexact H3
  isplitl [H4]
  · iexists _; isplitr; · (ipureintro; exact (View.read_whole _ _).symm.trans q4)
    iexact H4
  isplitl [H5]
  · iexists _; isplitr; · (ipureintro; exact (View.read_whole _ _).symm.trans q5)
    iexact H5
  iexists _; isplitr; · (ipureintro; exact (View.read_whole _ _).symm.trans q6)
  iexact H6

end Obligation

end Cert.KernelIdeal.Mla

end
-- ==== Proof.BodyI.Launch.lean ====
/- The launch: the exchange's records dealt to the devices, and the run of the whole program. -/
module

public import proofs.«01_k».proof.Proof.BodyI.Body
public import Idealize.ShloMosaic.Lib.Pipeline.CollectiveSegs

@[expose] public section

set_option synthInstance.maxSize 4096

noncomputable section

namespace Cert.KernelIdeal.Mla

open Idealize.ShloMosaic Idealize.ShloMosaic.Transfers
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Held

variable {F : FTy → Type} [FloatOps F] [Named F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m ρ 0 c).share w = fullShare := by unfold Dat.share; split <;> rfl

/-! ## The records -/

def cellsAll : Finset (GSem nD τ sig) := Finset.univ.map ⟨kcell, kcell_injective⟩

abbrev tokAt (ck : Dev nD × Fin 5) : GSem nD τ sig × ℕ × Unit := (kcell ck, 0, ())
theorem tokAt_injective : Function.Injective tokAt := fun _ _ h => kcell_injective (congrArg Prod.fst h)
def toksAll : Finset (GSem nD τ sig × ℕ × Unit) := Finset.univ.map ⟨tokAt, tokAt_injective⟩

def u₀ : UU := (initOf (Pipeline.cells cfgs cellOf_inj) (Pipeline.launchToks cfgs cellOf_inj), (initOf cellsAll toksAll, 1))

/-- The tokens of a device's own cells. -/
def toks (c : Dev nD) : sProp 𝕄 := bigSep Finset.univ fun k : Fin 5 => dutyTok ER (kcell (c, k)) 0 ()
def poss (c : Dev nD) : sProp 𝕄 := bigSep Finset.univ fun k : Fin 5 => atPos ER (kcell (c, k)) 0 ∅ 0
def seen (c : Dev nD) : sProp 𝕄 := bigSep Finset.univ fun k : Fin 5 => reached ER (kcell (c, k)) 0

/-- A device's share of the records. -/
def G (c : Dev nD) : sProp 𝕄 :=
  iprop((bigSep Finset.univ fun k : Fin 5 => roundState ER (Rd m ρ) (kcell (c, k)) 0) ∗ poss c ∗ seen c ∗ toks c)

def G' (c : Dev nD) : sProp 𝕄 := iprop(∃ K, ghost m ρ K c)

theorem fund_cells : BI.own (ER (initOf cellsAll toksAll)) ⊢ (|==> bigSep Finset.univ (G m ρ) : sProp 𝕄) := by
  have hX (Φ : GSem nD τ sig → sProp 𝕄) : bigSep cellsAll Φ = bigSep Finset.univ fun c : Dev nD => bigSep Finset.univ fun k : Fin 5 => Φ (kcell (c, k)) := by
    unfold cellsAll; rw [bigSep_map, bigSep_univ_prod]; rfl
  have hT : bigSep toksAll (fun x => (dutyTok ER x.1 x.2.1 x.2.2 : sProp 𝕄)) = bigSep Finset.univ fun c : Dev nD => toks c := by
    unfold toksAll toks; rw [bigSep_map, bigSep_univ_prod]; rfl
  iintro HX
  imod (Rounds.fund ER (Rd m ρ) cellsAll toksAll) $$ HX with ⟨Hst, Hr, Hat, Htok⟩
  imodintro
  ihave Hst := (BIBase.Entails.of_eq (hX fun g => roundState ER (Rd m ρ) g 0)) $$ Hst
  ihave Hat := (BIBase.Entails.of_eq (hX fun g => atPos ER g 0 ∅ 0)) $$ Hat
  ihave Hr := (BIBase.Entails.of_eq (hX fun g => reached ER g 0)) $$ Hr
  ihave Htok := (BIBase.Entails.of_eq hT) $$ Htok
  unfold G poss seen
  simp only [bigSep_sep']
  isplitl [Hst]; · iexact Hst
  isplitl [Hat]; · iexact Hat
  isplitl [Hr]; · iexact Hr
  iexact Htok

/-! ## The semaphores -/

theorem ownSems0_eq (c : Dev nD) : (Pipeline.ownSems0 (Ix := Unit) (Name := ℕ) (U := UU) (Lvl := ℕ) (Val := Elt F) (τ := τ) osem c : sProp 𝕄)
    = iprop(semVal ((c : Thread nD τ), osem 0) 0 ∗ semVal ((c : Thread nD τ), osem 1) 0 ∗ semVal ((c : Thread nD τ), osem 2) 0 ∗ semVal ((c : Thread nD τ), osem 3) 0
      ∗ semVal ((c : Thread nD τ), osem 4) 0 ∗ semVal ((c : Thread nD τ), osem 5) 0 ∗ semVal ((c : Thread nD τ), osem 6) 0 ∗ semVal ((c : Thread nD τ), osem 7) 0) := by
  rw [Pipeline.ownSems0_eq_of_list c osem [0, 1, 2, 3, 4, 5, 6, 7] (by decide) (by decide)]; rfl
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem sems_in (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 5 => semVal (kcell (c, k)) 0) ∗ copySems c) : sProp 𝕄) := by
  rw [ownSems0_eq, unscopedSems0_eq, bigSep_fin5]
  unfold copySems
  iintro ⟨⟨H0, H1, H2, H3, H4, H5, H6, H7⟩, HB⟩
  isplitl [HB H0 H1 H2 H3]
  · isplitl [HB]; · iexact HB
    isplitl [H0]; · iexact H0
    isplitl [H2]; · iexact H2
    isplitl [H1]; · iexact H1
    iexact H3
  isplitl [H4]; · iexact H4
  isplitl [H5]; · iexact H5
  isplitl [H6]; · iexact H6
  iexact H7

theorem sems_out (c : Dev nD) :
    (iprop((bigSep Finset.univ fun k : Fin 5 => semVal (kcell (c, k)) 0) ∗ copySems c) : sProp 𝕄)
      ⊢ iprop(Pipeline.ownSems0 (Ix := Unit) (Name := ℕ) (U := UU) (Lvl := ℕ) (Val := Elt F) (τ := τ) osem c ∗ unscopedSems0 c) := by
  rw [ownSems0_eq, unscopedSems0_eq, bigSep_fin5]
  unfold copySems
  iintro ⟨⟨HB, H0, H2, H1, H3⟩, H4, H5, H6, H7⟩
  isplitr [HB]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iexact HB

/-! ## The global step -/

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k)))) ∗ seen c ∗ toks c ∗ poss c ∗ copySems c) := by
  unfold G
  iintro ⟨Hos, Hus, Hst, Hat, Hr, Htok⟩
  ihave Hv := (sems_in (F := F) c) $$ [Hos Hus]
  · isplitl [Hos] <;> iassumption
  icases Hv with ⟨Hv, Hcopy⟩
  imod (show iprop((bigSep Finset.univ fun k : Fin 5 => semVal (kcell (c, k)) 0) ∗ bigSep Finset.univ fun k : Fin 5 => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Htok]; · iexact Htok
  isplitl [Hat] <;> iassumption

/-- Every cell's invariant and mark. -/
def records (K : Dev nD × Fin 5 → ℕ) : sProp 𝕄 :=
  iprop((bigSep Finset.univ fun ck : Dev nD × Fin 5 => cellInv ER (Rd m ρ) (K ck) (kcell ck)) ∗ marks)
instance records_persistent (K : Dev nD × Fin 5 → ℕ) : BI.Persistent (records m ρ K) := by unfold records; infer_instance

/-- A device's cells' invariants, out of everyone's. -/
theorem inv_row (K : Dev nD × Fin 5 → ℕ) (c : Dev nD) :
    (bigSep Finset.univ fun ck : Dev nD × Fin 5 => (cellInv ER (Rd m ρ) (K ck) (kcell ck) : sProp 𝕄))
      ⊢ bigSep Finset.univ fun k : Fin 5 => cellInv ER (Rd m ρ) (K (c, k)) (kcell (c, k)) := by
  rw [bigSep_univ_prod (fun ck : Dev nD × Fin 5 => (cellInv ER (Rd m ρ) (K ck) (kcell ck) : sProp 𝕄))]
  exact bigSep_elim (Finset.mem_univ c)

theorem ghost_intro (K : Dev nD × Fin 5 → ℕ) (c : Dev nD) : iprop(records m ρ K ∗ (payToks c ∗ poss c ∗ copySems c)) ⊢ G' m ρ c := by
  unfold records G' ghost invs poss
  iintro ⟨⟨#HI, #HR⟩, Htok, Hat, Hcopy⟩
  iexists K
  isplitr
  · isplitr; · iapply (inv_row m ρ K c); iexact HI
    iapply (inv_row m ρ K (ptn c)); iexact HI
  isplitr; · iexact HR
  isplitl [Hat]; · iexact Hat
  isplitl [Htok] <;> iassumption

/-- The tokens of a barrier and of the arrivals go to the partner. -/
theorem toks_swap : (bigSep Finset.univ fun c : Dev nD => (toks c : sProp 𝕄)) ⊢ bigSep Finset.univ fun c : Dev nD => payToks c := by
  have e : ∀ k : Fin 5, bigSep Finset.univ (fun c : Dev nD => (dutyTok ER (kcell (c, k)) 0 () : sProp 𝕄))
      = bigSep Finset.univ fun c : Dev nD => dutyTok ER (kcell (ptn c, k)) 0 () := fun k =>
    bigSep_univ_equiv swap (fun c : Dev nD => (dutyTok ER (kcell (c, k)) 0 () : sProp 𝕄))
  unfold toks payToks
  simp only [bigSep_fin5, bigSep_sep']
  iintro ⟨H0, H1, H2, H3, H4⟩
  isplitl [H0]; · iapply (BIBase.Entails.of_eq (e 0)); iexact H0
  isplitl [H1]; · iexact H1
  isplitl [H2]; · iapply (BIBase.Entails.of_eq (e 2)); iexact H2
  isplitl [H3]; · iexact H3
  iapply (BIBase.Entails.of_eq (e 4)); iexact H4

theorem bigSep_keep {I : Type} [DecidableEq I] {S : Finset I} {R : sProp (MT nD τ sig Unit (Elt F) ℕ UU ℕ)} [BI.Persistent R]
    {Φ Ψ : I → sProp (MT nD τ sig Unit (Elt F) ℕ UU ℕ)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k)))) ∗ seen c ∗ toks c ∗ poss c ∗ copySems c) : sProp 𝕄)
      ⊢ bigSep Finset.univ (G' m ρ) := by
  rw [bigSep_sep', bigSep_sep', bigSep_sep', ← bigSep_univ_prod (fun ck : Dev nD × Fin 5 => iprop(∃ κ : ℕ, cellInv ER (Rd m ρ) κ (kcell ck)))]
  unfold seen
  rw [← bigSep_univ_prod (fun ck : Dev nD × Fin 5 => (reached ER (kcell ck) 0 : sProp 𝕄))]
  iintro ⟨HI, #HR, Htok, Hrest⟩
  ihave HK := (BI.bigSep_exists_pi Finset.univ (fun (ck : Dev nD × Fin 5) (κ : ℕ) => (cellInv ER (Rd m ρ) κ (kcell ck) : sProp 𝕄))) $$ HI
  icases HK with ⟨%K, #HI⟩
  ihave Htok := (toks_swap (F := F)) $$ Htok
  iapply (bigSep_keep (R := records m ρ K) fun c _ => ghost_intro m ρ K c)
  isplitr
  · unfold records marks; isplitl; · iexact HI
    iexact HR
  rw [bigSep_sep' (Φ := fun c : Dev nD => (payToks c : sProp 𝕄))]
  isplitl [Htok] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit at launch -/

theorem launch_at (c : Dev nD) (k : Fin 5) :
    tallyOn (kcell (c, k)) (launchCredit (Pipeline.owing O₀) 0 (kcell (c, k)))
      = (tallyAt (kcell (c, k)) () ((if k = 4 then N1 else 0) + (if k = 2 then N0 else 0) + (if k = 0 then 1 else 0)) : CellTallies nD τ sig Unit) := by
  have h : ∀ d : Dev nD, O₀ d (kcell (c, k)) () = if d = ptn c then (if k = 4 then N1 else 0) + (if k = 2 then N0 else 0) + (if k = 0 then 1 else 0) else 0 := fun d => by
    rw [owed_at]
    by_cases hd : d = ptn c
    · rw [if_pos hd, if_pos (by rw [hd, ptn_ptn])]
    · rw [if_neg hd, if_neg fun h => hd (by rw [h, ptn_ptn])]
  unfold tallyAt
  refine congrArg _ (Finsupp.ext fun u => ?_)
  cases u
  rw [Pipeline.launchCredit_owing, Finsupp.single_eq_same, Finset.sum_congr rfl fun d _ => h d, Finset.sum_ite_eq' Finset.univ (ptn c), if_pos (Finset.mem_univ _)]

theorem creds_intro (c : Dev nD) : (Pipeline.launchCred O₀ c : sProp 𝕄) ⊢ creds c := by
  have h0 := launch_at c 0
  have h2 := launch_at c 2
  have h4 := launch_at c 4
  unfold Pipeline.launchCred creds
  rw [bigSep_univ_at _ (csem 0)]
  refine BI.sep_mono (BIBase.Entails.of_eq (congrArg (fun t => (cred t : sProp 𝕄)) h0)) ?_
  rw [bigSep_erase (i := csem 2) (Finset.mem_erase.mpr ⟨fun h => by simpa using csem_injective h, Finset.mem_univ _⟩)]
  refine BI.sep_mono (BIBase.Entails.of_eq (congrArg (fun t => (cred t : sProp 𝕄)) h2)) ?_
  refine (bigSep_elim (Finset.mem_erase.mpr ⟨fun h => by simpa using csem_injective h,
    Finset.mem_erase.mpr ⟨fun h => by simpa using csem_injective h, Finset.mem_univ (csem 4)⟩⟩)).trans (BIBase.Entails.of_eq (congrArg (fun t => (cred t : sProp 𝕄)) h4))

/-! ## The launch's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none, show cfg0.spec = spec0 from rfl, unscopedRest0_eq]
  iintro ⟨Hm, Hlev, Hcr, -, HG⟩
  ihave Hc := (creds_intro (F := F) c) $$ Hcr
  imodintro
  unfold start G' restMem
  isplitl
  · isplitl [HG]; · iexact HG
    isplitl [Hc]; · iexact Hc
    isplitl [Hlev]; · iexact Hlev
    iexact Hm
  · iempintro

theorem scratch_eq (c : Dev nD) : (Pipeline.scopedRest (Ix := Unit) (Name := ℕ) (U := UU) (Lvl := ℕ) (Val := Elt F) cfg0.spec c : sProp 𝕄) = scratch c := by
  rw [show cfg0.spec = spec0 from rfl, scopedRest0_eq]
  unfold scratch someOf
  simp only [show ∀ b : Ref sig .tc, (View.whole b).set = Finset.univ from fun b => View.set_whole b]

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scratch_eq]
  unfold Φ₀
  iintro ⟨Hs, -, Hr⟩
  isplitl [Hs] <;> iassumption

theorem phi1_exit (c : Dev nD) :
    (dats m ρ 0 c).Φ (Fin.last cfg0.N) ⊢ iprop((unscopedSems0 c ∗ restMem m ρ c) ∗ Pipeline.ownSems0 osem c ∗ Pipeline.scopedRest cfg0.spec c) := by
  rw [show (dats m ρ 0 c).Φ (Fin.last cfg0.N) = Φ₁ m ρ c from rfl, scratch_eq]
  unfold Φ₁
  iintro ⟨Hr, Hz, Hc, Hm⟩
  ihave Hs := (sems_out (F := F) c) $$ [Hz Hc]
  · isplitl [Hz] <;> iassumption
  icases Hs with ⟨Ho, Hu⟩
  isplitl [Hu Hm]
  · isplitl [Hu] <;> iassumption
  isplitl [Ho] <;> iassumption

theorem lv_low (c : Dev nD) (x : SemLoc sig) (h : ¬ x = csem 0 ∧ ¬ (x = csem 2 ∨ x = csem 4)) : lv ((c : Thread nD τ), x) () = 0 := by
  unfold lv
  rw [if_neg h.1, if_neg h.2]

theorem waits_ok (c : Dev nD) : (levAts L lv : sProp 𝕄) ⊢ Pipeline.cellsWaits cfgs (dats m ρ) () 0 c :=
  Pipeline.cellsWaits_intro cfgs (dats m ρ) () 0 c fun w s t =>
    mayWait_low c _ (lv_low c _ (by fin_cases w <;> fin_cases s <;> decide)) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- The arrays at the end, and the two weights read where they lie. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg4) = (s₀ m ρ).mem ((c : Thread nD τ).loc main_arg4)
    ∧ r.2.mem ((c : Thread nD τ).loc main_arg7) = (s₀ m ρ).mem ((c : Thread nD τ).loc main_arg7)

/-- What the end's resources say of the state. -/
def QY (c : Dev nD) (s : MemSt nD τ sig (Elt F)) : Prop :=
  (∀ x : SemLoc sig, x.isScoped .tc = false → s.sem ((c.tc : Thread nD τ), x) = 0)
    ∧ s.mem ((c : Thread nD τ).loc main_arg4) = (s₀ m ρ).mem ((c : Thread nD τ).loc main_arg4)
    ∧ s.mem ((c : Thread nD τ).loc main_arg7) = (s₀ m ρ).mem ((c : Thread nD τ).loc main_arg7)

theorem read_end (c : Dev nD) (s' : Phys nD τ sig (Elt F)) :
    iprop((unscopedSems0 c ∗ restMem m ρ c) ∗ emp ∗ SI s') ⊢ (|={Set.univ}=> iprop(⌜QY m ρ c s'.mem⌝ ∗ SI s') : sProp 𝕄) := by
  have hread : ∀ (b : Ref sig .tc) (f : Buf (Elt F) ((c : Thread nD τ).loc b)),
      (iprop((((c : Thread nD τ).loc b) ↦{fullShare} f) ∗ SI s') : sProp 𝕄) ⊢ iprop(⌜s'.mem.mem ((c : Thread nD τ).loc b) = f⌝ ∗ SI s') := fun b f => by
    have := pointsTo_read_all (Ix := Unit) (Name := ℕ) (U := UU) (Lvl := ℕ) ({()} : Finset Unit) (fun _ => (c : Thread nD τ).loc b) (fun _ => f) s'
    rw [bigSep_singleton] at this
    refine this.trans ?_
    iintro ⟨%h, HSI⟩
    isplitr; · ipureintro; exact h () (Finset.mem_singleton_self _)
    iexact HSI
  unfold restMem
  iintro ⟨⟨Hu, H4, H7⟩, -, HSI⟩
  ihave H := (hread main_arg4 _) $$ [H4 HSI]
  · isplitl [H4] <;> iassumption
  icases H with ⟨%h4, HSI⟩
  ihave H := (hread main_arg7 _) $$ [H7 HSI]
  · isplitl [H7] <;> iassumption
  icases H with ⟨%h7, HSI⟩
  imod (Pipeline.unscopedSems0_read (X := unscopedSems0 c) (c := c) fupd_intro s') $$ [Hu HSI] with ⟨%hs, HSI⟩
  · isplitl [Hu] <;> iassumption
  imodintro
  isplitr; · ipureintro; exact ⟨hs, h4, h7⟩
  iexact HSI

set_option maxRecDepth 100000 in
/-- Every weakly fair execution of the program ends, with each device's output as computed, its arguments unchanged and
    every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits_ok m ρ)
    (G := G m ρ) (G' := G' m ρ) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      ihave HX := (show BI.own (((Emb.inl : Emb UB (UB × Counters)).trans embR) (initOf cellsAll toksAll)) ⊢ (BI.own (ER (initOf cellsAll toksAll)) : sProp 𝕄) from
        BIBase.Entails.of_eq rfl) $$ HX
      imod (fund_cells m ρ) $$ HX with HG
      imodintro
      isplitl [HP] <;> iassumption)
    (hglob := glob m ρ)
    (hA := fun _ _ => rfl) (hpf := fun _ k => k.elim0)
    (X := start m ρ) (Y := fun c => iprop(unscopedSems0 c ∗ restMem m ρ c)) (Z := fun _ => iprop(emp))
    (hX := start_intro m ρ) (hin := phi0_intro m ρ) (hout := phi1_exit m ρ)
    (QY := QY m ρ)
    (hY := read_end m ρ)
    (hQ := fun _ h hs => ⟨fun c => ⟨(h c).1, (h c).2.2.2⟩, sem_eq_zero hs fun c => (h c).2.2.1⟩)

end Cert.KernelIdeal.Mla

end
-- ==== Proof.BodyI.Ends.lean ====
/- What a run leaves in each argument and in the output, device by device. -/
module

public import proofs.«01_k».proof.Proof.BodyI.Launch

@[expose] public section

noncomputable section

namespace Cert.KernelIdeal.Mla

open Idealize.ShloMosaic Idealize.ShloMosaic.TcCoe Idealize.SL.Sem
open Idealize.ShloMosaic.Pipeline (Dat Cfg Window)
open Cert.KernelIdeal Cert.KernelIdeal.Gen Cert.Held

variable {F : FTy → Type} [FloatOps F] [Named F]
variable (m : (ℓ : Loc nD τ sig) → Buf (Elt F) ℓ) (ρ : Dev nD → PrngReg)

/-- The one block of each window is the whole array. -/
theorem inX_eq (c : Dev nD) : inX m ρ c = m ((c : Thread nD τ).loc main_arg0) :=
  Memref.read_access_unit_zero (Elt F) main_arg0 (off := fun a => win0_0.index (0 : Fin 1) a * main_arg0.ty.shape.size a)
    (funext fun a => by fin_cases a <;> decide) (fun a => by fin_cases a <;> decide) _
theorem inWD_eq (c : Dev nD) : inWD m ρ c = m ((c : Thread nD τ).loc main_arg1) :=
  Memref.read_access_unit_zero (Elt F) main_arg1 (off := fun a => win0_1.index (0 : Fin 1) a * main_arg1.ty.shape.size a)
    (funext fun a => by fin_cases a <;> decide) (fun a => by fin_cases a <;> decide) _
theorem inWK_eq (c : Dev nD) : inWK m ρ c = m ((c : Thread nD τ).loc main_arg2) :=
  Memref.read_access_unit_zero (Elt F) main_arg2 (off := fun a => win0_2.index (0 : Fin 1) a * main_arg2.ty.shape.size a)
    (funext fun a => by fin_cases a <;> decide) (fun a => by fin_cases a <;> decide) _
theorem inWV_eq (c : Dev nD) : inWV m ρ c = m ((c : Thread nD τ).loc main_arg3) :=
  Memref.read_access_unit_zero (Elt F) main_arg3 (off := fun a => win0_3.index (0 : Fin 1) a * main_arg3.ty.shape.size a)
    (funext fun a => by fin_cases a <;> decide) (fun a => by fin_cases a <;> decide) _
theorem inWR_eq (c : Dev nD) : inWR m ρ c = m ((c : Thread nD τ).loc main_arg5) :=
  Memref.read_access_unit_zero (Elt F) main_arg5 (off := fun a => win0_4.index (0 : Fin 1) a * main_arg5.ty.shape.size a)
    (funext fun a => by fin_cases a <;> decide) (fun a => by fin_cases a <;> decide) _
theorem inWE_eq (c : Dev nD) : inWE m ρ c = m ((c : Thread nD τ).loc main_arg6) :=
  Memref.read_access_unit_zero (Elt F) main_arg6 (off := fun a => win0_5.index (0 : Fin 1) a * main_arg6.ty.shape.size a)
    (funext fun a => by fin_cases a <;> decide) (fun a => by fin_cases a <;> decide) _

/-- The output array ends as the body left it. -/
theorem finalA_out (c : Dev nD) : finalA m ρ c (6 : Fin 7) = outAt m ρ c := by
  have h : (win0_6.blk (0 : Fin 1)).view.read (Elt F) (finalA m ρ c (6 : Fin 7)) = outAt m ρ c := by
    unfold finalA
    rw [show cfg0.N = ((0 : Fin 1) : Fin cfg0.N).val + 1 from rfl, (dats m ρ 0 c).arrAt_succ (6 : Fin 7) (0 : Fin 1)]
    rw [show (cfg0.win (6 : Fin 7)).flush (0 : Fin 1) = true from by decide, if_pos rfl]
    exact View.read_write_univ _ _
  refine Eq.trans (Eq.symm ?_) h
  exact Memref.read_access_unit_zero (Elt F) main_v1 (off := fun a => win0_6.index (0 : Fin 1) a * main_v1.ty.shape.size a)
    (funext fun a => by fin_cases a <;> decide) (fun a => by fin_cases a <;> decide) _

/-- Every run ends, with each device's output as computed, its arguments unchanged and every counter at zero. -/
theorem ends : θ_run defs (onTc (τ := τ) (main (F := F))) ⟨m, fun _ => 0, ρ⟩ (fun r => (∀ c : Dev nD,
      r.2.mem ((c.tc : Thread nD τ).loc main_v1) = outAt m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨((h.1 c).1 (6 : Fin 7)).trans (finalA_out m ρ c),
      ((h.1 c).1 (0 : Fin 7)).trans ((dats (F := F) m ρ 0 c).arrAt_in (0 : Fin 7) rfl _), ((h.1 c).1 (1 : Fin 7)).trans ((dats (F := F) m ρ 0 c).arrAt_in (1 : Fin 7) rfl _),
      ((h.1 c).1 (2 : Fin 7)).trans ((dats (F := F) m ρ 0 c).arrAt_in (2 : Fin 7) rfl _), ((h.1 c).1 (3 : Fin 7)).trans ((dats (F := F) m ρ 0 c).arrAt_in (3 : Fin 7) rfl _),
      (h.1 c).2.1, ((h.1 c).1 (4 : Fin 7)).trans ((dats (F := F) m ρ 0 c).arrAt_in (4 : Fin 7) rfl _), ((h.1 c).1 (5 : Fin 7)).trans ((dats (F := F) m ρ 0 c).arrAt_in (5 : Fin 7) rfl _),
      (h.1 c).2.2⟩, h.2⟩)
    (run_main m ρ)

end Cert.KernelIdeal.Mla

end
-- ==== Proof.Claim.Frames.lean ====
/- The frames: every run of each program ends, with its arguments unchanged and every counter at zero. -/
module

public import proofs.«01_k».proof.Defs
public import proofs.«01_k».proof.Proof.BodyK.Ends
public import proofs.«01_k».proof.Proof.BodyI.Ends
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

theorem frame_p : Cert.quiescent_Kernel := fun m ρ _ =>
  (θ_run Cert.Kernel.defs _ _).mono (fun _ h => ⟨fun c => (h.1 c).2, h.2⟩) (Cert.Kernel.Mla.ends (F := Bits) m ρ)

theorem frame_pi : Cert.quiescent_KernelIdeal := fun m ρ _ =>
  (θ_run Cert.KernelIdeal.defs _ _).mono (fun _ h => ⟨fun c => (h.1 c).2, h.2⟩) (Cert.KernelIdeal.Mla.ends (F := Ideal) m ρ)

/-- The reference declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Value.Payloads.lean ====
/- What each step of the kernel computes at one element, over the extended reals. -/
module

public import proofs.«01_k».proof.Proof.BodyI.Spec
public import Idealize.ShloMosaic.Lib.Pointwise

@[expose] public section

set_option maxRecDepth 16384

noncomputable section

namespace Cert.KernelIdeal.Mla

open Idealize.ShloMosaic Cert.KernelIdeal Cert.KernelIdeal.Gen Cert.Held

theorem pay5_at (v : Vec Ideal S1x512x2048 .f32) (s : Fin 512) (q : Fin 2048) : k0_pay5 v (ix2 s q) = v (ix3 0 s q) := by
  pointwise [k0_pay5]

theorem pay6_at (w : Vec Ideal S2048x128 .f32) (x : Vec Ideal S512x2048 .bf16) (s : Fin 512) (k : Fin 128) :
    k0_pay6 w x (ix2 s k) = ∑ q : Fin 2048, x (ix2 s q) * w (ix2 q k) := by
  pointwise [k0_pay6, k0_pay4]

theorem pay2_at (w : Vec Ideal S128x2048 .f32) (k : Fin 128) (n : Fin 2048) : k0_pay2 w (ix3 0 k n) = w (ix2 k n) := by
  pointwise [k0_pay2]

theorem pay10_at (w : Vec Ideal S1x2048x256 .f32) (x : Vec Ideal S512x2048 .bf16) (s : Fin 512) (n : Fin 256) :
    k0_pay10 w x (ix2 s n) = ∑ q : Fin 2048, x (ix2 s q) * w (ix3 0 q n) := by
  pointwise [k0_pay10, k0_pay9]

theorem pQr_at (w : Vec Ideal S2048x512 .f32) (x : Vec Ideal S512x2048 .bf16) (h : Fin 16) (s : Fin 512) (d : Fin 32) :
    pQr w x h (ix3 0 s d) = ∑ q : Fin 2048, x (ix2 s q) * w (ix2 q ⟨32 * h.val + d.val, by omega⟩) := by
  pointwise [pQr, pQrAll, k0_pay38, k0_pay36]

theorem pay56_at (w : Vec Ideal S2048x32 .f32) (x : Vec Ideal S512x2048 .bf16) (s : Fin 512) (d : Fin 32) :
    k0_pay56 (k0_pay37 w) x (ix2 s d) = ∑ q : Fin 2048, x (ix2 s q) * w (ix2 q d) := by
  pointwise [k0_pay56, k0_pay37]

theorem pay76_at (cs co : Vec Ideal S512x128 .bf16) (ws wo : Vec Ideal S1x128x512 .bf16) (s : Fin 512) (n : Fin 512) :
    k0_pay76 cs co ws wo (ix2 s n)
      = (∑ k : Fin 128, cs (ix2 s k) * ws (ix3 0 k n)) + ∑ k : Fin 128, co (ix2 s k) * wo (ix3 0 k n) := by
  pointwise [k0_pay76]

/-- The kernel's scale, by its name. -/
theorem scale_eq : Named.named (F := Ideal) κ "scale" (φ := .f32) 0x3DA1E89B#32 = (((Real.sqrt 160)⁻¹ : ℝ) : EReal) :=
  IdealRules.named_const.ideal_named_scalar _ _ _ _ rfl

/-- A score of one head. -/
def sc1 (q k : Vec Ideal S512x128 .bf16) (qr : Vec Ideal S1x512x32 .bf16) (kr : Vec Ideal S512x32 .bf16) (s t : Fin 512) : EReal :=
  ((∑ j : Fin 128, q (ix2 s j) * k (ix2 t j)) + ∑ d : Fin 32, qr (ix3 0 s d) * kr (ix2 t d)) * (((Real.sqrt 160)⁻¹ : ℝ) : EReal)

theorem pOb_at (q k : Vec Ideal S512x128 .bf16) (qr : Vec Ideal S1x512x32 .bf16) (kr : Vec Ideal S512x32 .bf16) (v : Vec Ideal S512x128 .bf16)
    (s : Fin 512) (j : Fin 128) :
    pOb q k qr kr v (ix2 s j)
      = (∑ t : Fin 512, Ideal.exp (sc1 q k qr kr s t) * v (ix2 t j)) * Ideal.div 1 (∑ t : Fin 512, Ideal.exp (sc1 q k qr kr s t)) := by
  pointwise [pOb, k0_pay99, sc1]
  simp only [scale_eq]

theorem pContrib_at (wo : Vec Ideal S1x128x2048 .f32) (ob : FVec Ideal S512x128 .bf16) (d : Fin 2) (s : Fin 512) (n : Fin 1024) :
    pContrib wo ob d (ix2 s n) = ∑ j : Fin 128, ob (ix2 s j) * wo (ix3 0 j ⟨1024 * d.val + n.val, by omega⟩) := by
  pointwise [pContrib, k0_pay105]

theorem pOut0_at (wo : Vec Ideal S1x128x2048 .f32) (ob : FVec Ideal S512x128 .bf16) (d : Fin 2) (s : Fin 512) (n : Fin 1024) :
    pOut0 wo ob d (ix3 0 s n) = ∑ j : Fin 128, ob (ix2 s j) * wo (ix3 0 j ⟨1024 * d.val + n.val, by omega⟩) := by
  rw [← pContrib_at]
  pointwise [pOut0]

theorem pOut_at (wo : Vec Ideal S1x128x2048 .f32) (ob : FVec Ideal S512x128 .bf16) (d : Fin 2) (old : Vec Ideal S1x512x1024 .f32)
    (s : Fin 512) (n : Fin 1024) :
    pOut wo ob d old (ix3 0 s n)
      = old (ix3 0 s n) + ∑ j : Fin 128, ob (ix2 s j) * wo (ix3 0 j ⟨1024 * d.val + n.val, by omega⟩) := by
  rw [← pContrib_at]
  pointwise [pOut]

end Cert.KernelIdeal.Mla

end
-- ==== Proof.Value.Kernel.lean ====
/- What a device's output holds at one element, over the extended reals, from its own blocks and its partner's. -/
module

public import proofs.«01_k».proof.Proof.Value.Payloads

@[expose] public section

set_option maxRecDepth 16384

noncomputable section

namespace Cert.KernelIdeal.Mla

open Idealize.ShloMosaic Cert.KernelIdeal Cert.KernelIdeal.Gen Cert.Held

/-! ## Where a block's element lies -/

theorem emb2_ix {n0 n1 m0 m1 o0 o1 : ℕ} {inb} (i : Fin m0) (j : Fin m1) (h0 : o0 + i.val < n0) (h1 : o1 + j.val < n1) :
    (Rect.unit (s := ⟨2, ![n0, n1]⟩) ![o0, o1] ![m0, m1] inb).emb (ix2 i j) = ix2 ⟨o0 + i.val, h0⟩ ⟨o1 + j.val, h1⟩ := by
  funext a
  apply Fin.ext
  refine (emb2 _ a).trans ?_
  fin_cases a <;> rfl

theorem emb3_ix {n0 n1 n2 m0 m1 m2 o0 o1 o2 : ℕ} {inb} (i : Fin m0) (j : Fin m1) (k : Fin m2) (h0 : o0 + i.val < n0) (h1 : o1 + j.val < n1)
    (h2 : o2 + k.val < n2) :
    (Rect.unit (s := ⟨3, ![n0, n1, n2]⟩) ![o0, o1, o2] ![m0, m1, m2] inb).emb (ix3 i j k)
      = ix3 ⟨o0 + i.val, h0⟩ ⟨o1 + j.val, h1⟩ ⟨o2 + k.val, h2⟩ := by
  funext a
  apply Fin.ext
  refine (emb3 _ a).trans ?_
  fin_cases a <;> rfl

/-- Row `s` of batch `b` in a buffer of both batches. -/
def row (b : Fin 2) (s : Fin 512) : Fin 1024 := ⟨512 * b.val + s.val, by omega⟩

/-- Column `j` of head `h`. -/
def colK (h : Fin 16) (j : Fin 128) : Fin 2048 := ⟨128 * h.val + j.val, by omega⟩
/-- Rotary column `d` of head `h`. -/
def rcolK (h : Fin 16) (d : Fin 32) : Fin 512 := ⟨32 * h.val + d.val, by omega⟩

theorem rX_at (b : Fin 2) (s : Fin 512) (q : Fin 2048) : (rX b).emb (ix3 0 s q : S1x512x2048.Idx) = ix3 b s q :=
  (emb3_ix _ _ _ (by show b.val + 0 < 2; omega) (by omega) (by omega)).trans (by congr 1 <;> exact Fin.ext (by simp))

theorem rC_at (b : Fin 2) (s : Fin 512) (k : Fin 128) : (rC b).emb (ix2 s k : S512x128.Idx) = ix2 (row b s) k :=
  (emb2_ix _ _ (by omega) (by omega)).trans (by congr 1; exact Fin.ext (by simp))

theorem rKr_at (b : Fin 2) (s : Fin 512) (d : Fin 32) : (rKr b).emb (ix2 s d : S512x32.Idx) = ix2 (row b s) d :=
  (emb2_ix _ _ (by omega) (by omega)).trans (by congr 1; exact Fin.ext (by simp))

theorem rW_at (j : Fin 2) (k : Fin 128) (n : Fin 2048) : (rW j).emb (ix3 0 k n : S1x128x2048.Idx) = ix3 j k n :=
  (emb3_ix _ _ _ (by show j.val + 0 < 2; omega) (by omega) (by omega)).trans (by congr 1 <;> exact Fin.ext (by simp))

theorem rWt_at (j : Fin 2) (p : Fin 4) (k : Fin 128) (n : Fin 512) (hn : 512 * p.val + n.val < 2048) :
    (rWt j p).emb (ix3 0 k n : S1x128x512.Idx) = ix3 j k ⟨512 * p.val + n.val, hn⟩ :=
  (emb3_ix _ _ _ (by show j.val + 0 < 2; omega) (by omega) hn).trans (by congr 1 <;> exact Fin.ext (by simp))

theorem rWq_at (p : Fin 8) (q : Fin 2048) (n : Fin 256) (hn : 256 * p.val + n.val < 2048) :
    (rWq p).emb (ix2 q n : S2048x256.Idx) = ix2 q ⟨256 * p.val + n.val, hn⟩ :=
  (emb2_ix _ _ (by omega) hn).trans (by congr 1; exact Fin.ext (by simp))

theorem rWo_at (h : Fin 16) (j : Fin 128) (n : Fin 2048) : (rWo h).emb (ix2 j n : S128x2048.Idx) = ix2 (colK h j) n :=
  (emb2_ix _ _ (by omega) (by omega)).trans (by congr 1; exact Fin.ext (by simp))

theorem rCol_at (b : Fin 2) (h : Fin 16) (s : Fin 512) (j : Fin 128) : (rCol b h).emb (ix2 s j : S512x128.Idx) = ix2 (row b s) (colK h j) :=
  emb2_ix _ _ (by omega) (by omega)

theorem rQr_at (b : Fin 2) (h : Fin 16) (s : Fin 512) (d : Fin 32) : (rQr b h).emb (ix3 0 s d : S1x512x32.Idx) = ix3 h (row b s) d :=
  (emb3_ix _ _ _ (by show h.val + 0 < 16; omega) (by omega) (by omega)).trans (by congr 1; exact Fin.ext (by simp))

theorem rStrip_at (b : Fin 2) (p : Fin 8) (s : Fin 512) (n : Fin 256) (hn : 256 * p.val + n.val < 2048) :
    (rStrip b p).emb (ix2 s n : S512x256.Idx) = ix2 (row b s) ⟨256 * p.val + n.val, hn⟩ :=
  emb2_ix _ _ (by omega) hn

theorem rTile_at (b : Fin 2) (p : Fin 4) (s : Fin 512) (n : Fin 512) (hn : 512 * p.val + n.val < 2048) :
    (rTile b p).emb (ix2 s n : S512x512.Idx) = ix2 (row b s) ⟨512 * p.val + n.val, hn⟩ :=
  emb2_ix _ _ (by omega) hn

theorem rOut_at (b d : Fin 2) (s : Fin 512) (n : Fin 1024) (hn : 1024 * d.val + n.val < 2048) :
    (rOut b d).emb (ix3 0 s n : S1x512x1024.Idx) = ix3 b s ⟨1024 * d.val + n.val, hn⟩ :=
  (emb3_ix _ _ _ (by show b.val + 0 < 2; omega) (by omega) hn).trans (by congr 1 <;> exact Fin.ext (by simp))

section

variable {α : Type}

theorem tStrip_at (w : Fin 2 × Fin 8 → S512x256.Idx → α) (b : Fin 2) (s : Fin 512) (n : Fin 2048) :
    tStrip.val w (ix2 (row b s) n) = w (b, ⟨n.val / 256, by omega⟩) (ix2 s ⟨n.val % 256, by omega⟩) := by
  refine Eq.trans (congrArg (tStrip.val w) (Eq.symm ?_)) (tStrip.val_emb w (b, ⟨n.val / 256, by omega⟩) (ix2 s ⟨n.val % 256, by omega⟩ : S512x256.Idx))
  exact (rStrip_at b ⟨n.val / 256, by omega⟩ s ⟨n.val % 256, by omega⟩ (by simp only []; omega)).trans (by congr 1; exact Fin.ext (by simp only []; omega))

theorem tTile_at (w : Fin 2 × Fin 4 → S512x512.Idx → α) (b : Fin 2) (s : Fin 512) (n : Fin 2048) :
    tTile.val w (ix2 (row b s) n) = w (b, ⟨n.val / 512, by omega⟩) (ix2 s ⟨n.val % 512, by omega⟩) := by
  refine Eq.trans (congrArg (tTile.val w) (Eq.symm ?_)) (tTile.val_emb w (b, ⟨n.val / 512, by omega⟩) (ix2 s ⟨n.val % 512, by omega⟩ : S512x512.Idx))
  exact (rTile_at b ⟨n.val / 512, by omega⟩ s ⟨n.val % 512, by omega⟩ (by simp only []; omega)).trans (by congr 1; exact Fin.ext (by simp only []; omega))

theorem tC_at (w : Fin 2 → S512x128.Idx → α) (b : Fin 2) (s : Fin 512) (k : Fin 128) : tC.val w (ix2 (row b s) k) = w b (ix2 s k) :=
  Eq.trans (congrArg (tC.val w) (rC_at b s k).symm) (tC.val_emb w b (ix2 s k : S512x128.Idx))

theorem tKr_at (w : Fin 2 → S512x32.Idx → α) (b : Fin 2) (s : Fin 512) (d : Fin 32) : tKr.val w (ix2 (row b s) d) = w b (ix2 s d) :=
  Eq.trans (congrArg (tKr.val w) (rKr_at b s d).symm) (tKr.val_emb w b (ix2 s d : S512x32.Idx))

theorem tW_at (w : Fin 2 → S1x128x2048.Idx → α) (j : Fin 2) (k : Fin 128) (n : Fin 2048) : tW.val w (ix3 j k n) = w j (ix3 0 k n) :=
  Eq.trans (congrArg (tW.val w) (rW_at j k n).symm) (tW.val_emb w j (ix3 0 k n : S1x128x2048.Idx))

theorem tQr_at (w : Fin 2 × Fin 16 → S1x512x32.Idx → α) (b : Fin 2) (h : Fin 16) (s : Fin 512) (d : Fin 32) :
    tQr.val w (ix3 h (row b s) d) = w (b, h) (ix3 0 s d) :=
  Eq.trans (congrArg (tQr.val w) (rQr_at b h s d).symm) (tQr.val_emb w (b, h) (ix3 0 s d : S1x512x32.Idx))

theorem tOut_at (w : Fin 2 × Fin 2 → S1x512x1024.Idx → α) (b : Fin 2) (s : Fin 512) (n : Fin 2048) :
    tOut.val w (ix3 b s n) = w (b, ⟨n.val / 1024, by omega⟩) (ix3 0 s ⟨n.val % 1024, by omega⟩) := by
  refine Eq.trans (congrArg (tOut.val w) (Eq.symm ?_)) (tOut.val_emb w (b, ⟨n.val / 1024, by omega⟩) (ix3 0 s ⟨n.val % 1024, by omega⟩ : S1x512x1024.Idx))
  exact (rOut_at b ⟨n.val / 1024, by omega⟩ s ⟨n.val % 1024, by omega⟩ (by simp only []; omega)).trans (by congr 1; exact Fin.ext (by simp only []; omega))

end

/-! ## The buffers at an element -/

variable (X : Vec Ideal S2x512x2048 .f32) (WD : Vec Ideal S2048x128 .f32) (WK WV : Vec Ideal S128x2048 .f32) (WQ : Vec Ideal S2048x2048 .f32)
  (WR : Vec Ideal S2048x512 .f32) (WE : Vec Ideal S2048x32 .f32) (WO : Vec Ideal S2048x2048 .f32)

theorem xbB_at (b : Fin 2) (s : Fin 512) (q : Fin 2048) : xbB X b (ix2 s q) = X (ix3 b s q) := by
  unfold xbB
  rw [pay5_at, rX_at]

theorem CS_at (b : Fin 2) (s : Fin 512) (k : Fin 128) : CS X WD (ix2 (row b s) k) = ∑ q : Fin 2048, X (ix3 b s q) * WD (ix2 q k) := by
  refine (tC_at (csB X WD) b s k).trans ?_
  unfold csB
  simp only [pay6_at, xbB_at]

theorem WS_at (j : Fin 2) (k : Fin 128) (n : Fin 2048) : WS WK WV (ix3 j k n) = (if j = 0 then WK else WV) (ix2 k n) := by
  refine (tW_at (wsB WK WV) j k n).trans ?_
  unfold wsB
  rw [pay2_at]

theorem wqS_at (p : Fin 8) (q : Fin 2048) (n : Fin 256) (hn : 256 * p.val + n.val < 2048) :
    wqS WQ p (ix3 0 q n) = WQ (ix2 q ⟨256 * p.val + n.val, hn⟩) := by
  rw [← rWq_at p q n hn]
  pointwise [wqS]

theorem QQ_at (b : Fin 2) (s : Fin 512) (n : Fin 2048) : QQ X WQ (ix2 (row b s) n) = ∑ q : Fin 2048, X (ix3 b s q) * WQ (ix2 q n) := by
  refine (tStrip_at (qB X WQ) b s n).trans ?_
  unfold qB
  rw [pay10_at]
  refine Finset.sum_congr rfl fun q _ => ?_
  rw [xbB_at, wqS_at WQ _ _ _ (by simp only []; omega)]
  congr 3
  exact Fin.ext (by simp only []; omega)

theorem QR_at (b : Fin 2) (h : Fin 16) (s : Fin 512) (d : Fin 32) :
    QR X WR (ix3 h (row b s) d) = ∑ q : Fin 2048, X (ix3 b s q) * WR (ix2 q (rcolK h d)) := by
  refine (tQr_at (qrB X WR) b h s d).trans ?_
  unfold qrB
  rw [pQr_at]
  simp only [xbB_at]
  rfl

theorem KR_at (b : Fin 2) (s : Fin 512) (d : Fin 32) : KR X WE (ix2 (row b s) d) = ∑ q : Fin 2048, X (ix3 b s q) * WE (ix2 q d) := by
  refine (tKr_at (krB X WE) b s d).trans ?_
  unfold krB
  simp only [pay56_at, xbB_at]

theorem KV_at (cs co : Vec Ideal S1024x128 .bf16) (ws wo : Vec Ideal S2x128x2048 .bf16) (j : Fin 2) (b : Fin 2) (s : Fin 512) (n : Fin 2048) :
    KV cs co ws wo j (ix2 (row b s) n)
      = (∑ k : Fin 128, cs (ix2 (row b s) k) * ws (ix3 j k n)) + ∑ k : Fin 128, co (ix2 (row b s) k) * wo (ix3 j k n) := by
  have e : (⟨512 * (n.val / 512) + n.val % 512, by omega⟩ : Fin 2048) = n := Fin.ext (by simp only []; omega)
  refine (tTile_at (kvB cs co ws wo j) b s n).trans ?_
  unfold kvB
  rw [pay76_at]
  simp only [rC_at]
  congr 1 <;>
  · refine Finset.sum_congr rfl fun k _ => ?_
    rw [rWt_at j _ k _ (by simp only []; omega), e]

theorem woS_at (h : Fin 16) (j : Fin 128) (n : Fin 2048) : woS WO h (ix3 0 j n) = WO (ix2 (colK h j) n) := by
  rw [← rWo_at h j n]
  pointwise [woS]

/-- A score of a head, from the buffers. -/
def scK (Q K : Vec Ideal S1024x2048 .bf16) (R : Vec Ideal S16x1024x32 .bf16) (E : Vec Ideal S1024x32 .bf16) (b : Fin 2) (h : Fin 16)
    (s t : Fin 512) : EReal :=
  ((∑ j : Fin 128, Q (ix2 (row b s) (colK h j)) * K (ix2 (row b t) (colK h j))) + ∑ d : Fin 32, R (ix3 h (row b s) d) * E (ix2 (row b t) d))
    * (((Real.sqrt 160)⁻¹ : ℝ) : EReal)

theorem obB_at (Q K V : Vec Ideal S1024x2048 .bf16) (R : Vec Ideal S16x1024x32 .bf16) (E : Vec Ideal S1024x32 .bf16) (b : Fin 2) (h : Fin 16)
    (s : Fin 512) (j : Fin 128) :
    obB Q K V R E b h (ix2 s j)
      = (∑ t : Fin 512, Ideal.exp (scK Q K R E b h s t) * V (ix2 (row b t) (colK h j))) * Ideal.div 1 (∑ t : Fin 512, Ideal.exp (scK Q K R E b h s t)) := by
  unfold obB
  rw [pOb_at]
  have e : ∀ t, sc1 (fun j => Q ((rCol b h).emb j)) (fun j => K ((rCol b h).emb j)) (fun j => R ((rQr b h).emb j)) (fun j => E ((rKr b).emb j)) s t
      = scK Q K R E b h s t := fun t => by
    unfold sc1 scK
    simp only [rCol_at, rQr_at, rKr_at]
  simp only [e, rCol_at]

/-- The heads up to `h`, one after another. -/
theorem outB_at (ob : Fin 2 → Fin 16 → FVec Ideal S512x128 .bf16) (b d : Fin 2) (s : Fin 512) (n : Fin 1024) (h : ℕ) (hh : h < 16) :
    outB WO ob h (b, d) (ix3 0 s n)
      = ∑ i : Fin (h + 1), ∑ j : Fin 128, ob b ⟨i.val, by omega⟩ (ix2 s j) * WO (ix2 (colK ⟨i.val, by omega⟩ j) ⟨1024 * d.val + n.val, by omega⟩) := by
  induction h with
  | zero =>
    rw [Fin.sum_univ_one]
    unfold outB
    rw [pOut0_at]
    simp only [woS_at]
    rfl
  | succ h ih =>
    have e : Fin.ofNat 16 (h + 1) = ⟨h + 1, hh⟩ := Fin.ext (Nat.mod_eq_of_lt hh)
    rw [Fin.sum_univ_castSucc]
    unfold outB
    rw [pOut_at, ih (by omega)]
    simp only [woS_at, e]
    rfl

theorem OUT_at (cs co : Vec Ideal S1024x128 .bf16) (ws wo : Vec Ideal S2x128x2048 .bf16) (b : Fin 2) (s : Fin 512) (n : Fin 2048) :
    OUT X WQ WR WE WO cs co ws wo (ix3 b s n)
      = ∑ h : Fin 16, ∑ j : Fin 128,
          obB (QQ X WQ) (KV cs co ws wo 0) (KV cs co ws wo 1) (QR X WR) (KR X WE) b h (ix2 s j) * WO (ix2 (colK h j) n) := by
  have e : (⟨1024 * (n.val / 1024) + n.val % 1024, by omega⟩ : Fin 2048) = n := Fin.ext (by simp only []; omega)
  refine (tOut_at (outB WO (obB (QQ X WQ) (KV cs co ws wo 0) (KV cs co ws wo 1) (QR X WR) (KR X WE)) 15) b s n).trans ?_
  rw [outB_at WO _ _ _ _ _ 15 (by omega)]
  simp only [e]

end Cert.KernelIdeal.Mla

end
-- ==== Proof.Value.Softmax.lean ====
/- Attention weights over the extended reals: shifting the scores by their maximum changes no weight, and scaling after the
   weighted sum is scaling before it. -/
module

public import Idealize.ShloMosaic.PureOps.Ideal
public import Idealize.ShloMosaic.PureOps.Ideal.Laws
public import Mathlib.Data.EReal.Operations
public import Mathlib.Analysis.SpecialFunctions.Exp

@[expose] public section

noncomputable section

namespace Cert.Value

open Idealize.ShloMosaic

/-- A real number among the extended reals. -/
def IsReal (e : EReal) : Prop := ∃ r : ℝ, e = (r : EReal)

theorem IsReal.mul {a b : EReal} (ha : IsReal a) (hb : IsReal b) : IsReal (a * b) := by
  obtain ⟨r, rfl⟩ := ha; obtain ⟨t, rfl⟩ := hb
  exact ⟨r * t, (EReal.coe_mul r t).symm⟩

theorem IsReal.add {a b : EReal} (ha : IsReal a) (hb : IsReal b) : IsReal (a + b) := by
  obtain ⟨r, rfl⟩ := ha; obtain ⟨t, rfl⟩ := hb
  exact ⟨r + t, (EReal.coe_add r t).symm⟩

theorem coe_sum {ι : Type*} (S : Finset ι) (f : ι → ℝ) : ((∑ i ∈ S, f i : ℝ) : EReal) = ∑ i ∈ S, (f i : EReal) := by
  classical
  induction S using Finset.induction_on with
  | empty => simp
  | insert a S h ih => rw [Finset.sum_insert h, Finset.sum_insert h, EReal.coe_add, ih]

theorem IsReal.sum {ι : Type*} {S : Finset ι} {f : ι → EReal} (h : ∀ i ∈ S, IsReal (f i)) : IsReal (∑ i ∈ S, f i) := by
  classical
  induction S using Finset.induction_on with
  | empty => exact ⟨0, by simp⟩
  | insert a S hn ih =>
    rw [Finset.sum_insert hn]
    exact (h a (Finset.mem_insert_self a S)).add (ih fun i hi => h i (Finset.mem_insert_of_mem hi))

theorem IsReal.of_abs_lt {e : EReal} (h : max e (-e) < ⊤) : IsReal e := by
  induction e with
  | bot => simp at h
  | top => simp at h
  | coe r => exact ⟨r, rfl⟩

/-- A nonnegative real factor comes out of any sum. -/
theorem sum_mul_coe {ι : Type*} (S : Finset ι) (f : ι → EReal) {r : ℝ} (hr : 0 ≤ r) :
    (∑ i ∈ S, f i) * (r : EReal) = ∑ i ∈ S, f i * (r : EReal) := by
  classical
  induction S using Finset.induction_on with
  | empty => simp
  | insert a S h ih =>
    rw [Finset.sum_insert h, Finset.sum_insert h,
      EReal.right_distrib_of_nonneg_of_ne_top (EReal.coe_nonneg.mpr hr) (EReal.coe_ne_top r), ih]

theorem ofBits_neg_inf : Ideal.ofBits .f32 0xFF800000#32 = ⊥ := by
  simp [Ideal.ofBits, Ideal.ieee]

theorem ofBits_pos_inf : Ideal.ofBits .f32 0x7F800000#32 = ⊤ := by
  simp [Ideal.ofBits, Ideal.ieee]

theorem ofBits_160 : Ideal.ofBits .f32 0x43200000#32 = ((160 : ℝ) : EReal) := by
  simp [Ideal.ofBits, Ideal.ieee, -EReal.coe_mul]
  norm_num

/-- The reference's scale. -/
theorem rsqrt_160 : Ideal.rsqrt (Ideal.ofBits .f32 0x43200000#32) = (((Real.sqrt 160)⁻¹ : ℝ) : EReal) := by
  rw [ofBits_160, Ideal.rsqrt_coe, if_neg (by norm_num), if_neg (by norm_num)]

/-- The maximum of finitely many reals, at least one. -/
theorem fold_max_real {n : ℕ} (s : Fin (n + 1) → ℝ) : IsReal (Finset.univ.fold max (⊥ : EReal) fun t => (s t : EReal)) := by
  have hle : (s 0 : EReal) ≤ Finset.univ.fold max (⊥ : EReal) fun t => (s t : EReal) :=
    (Finset.le_fold_max _).mpr (Or.inr ⟨0, Finset.mem_univ _, le_rfl⟩)
  have hlt : (Finset.univ.fold max (⊥ : EReal) fun t => (s t : EReal)) < ⊤ :=
    (Finset.fold_max_lt _).mpr ⟨bot_lt_top, fun t _ => EReal.coe_lt_top _⟩
  revert hle hlt
  generalize (Finset.univ.fold max (⊥ : EReal) fun t => (s t : EReal)) = e
  intro hle hlt
  induction e with
  | bot => exact absurd hle (not_le.mpr (EReal.bot_lt_coe _))
  | top => exact absurd hlt (lt_irrefl _)
  | coe r => exact ⟨r, rfl⟩

theorem div_coe_pos (a : EReal) {r : ℝ} (hr : 0 < r) : Ideal.div a (r : EReal) = a * ((r⁻¹ : ℝ) : EReal) := by
  unfold Ideal.div
  rw [if_neg (by exact_mod_cast hr.ne'), ← EReal.coe_inv]

/-- One row of attention, the kernel's order of work against the reference's. -/
theorem attend {n : ℕ} (sc V : Fin (n + 1) → EReal) (hs : ∀ t, IsReal (sc t)) :
    (∑ t, Ideal.exp (sc t) * V t) * Ideal.div 1 (∑ t, Ideal.exp (sc t))
      = ∑ t, V t * Ideal.div (Ideal.exp (sc t - Finset.univ.fold max (⊥ : EReal) sc))
          (∑ t', Ideal.exp (sc t' - Finset.univ.fold max (⊥ : EReal) sc)) := by
  choose s hs using hs
  obtain rfl : sc = fun t => (s t : EReal) := funext hs
  obtain ⟨M, hM⟩ := fold_max_real s
  simp only [hM]
  have e1 : ∀ t, Ideal.exp (s t : EReal) = (Real.exp (s t) : EReal) := fun _ => rfl
  have e2 : ∀ t, Ideal.exp ((s t : EReal) - (M : EReal)) = (Real.exp (s t - M) : EReal) := fun t => by
    rw [← EReal.coe_sub]; rfl
  simp only [e1, e2, ← coe_sum]
  have p1 : (0 : ℝ) < ∑ t, Real.exp (s t) := Finset.sum_pos (fun t _ => Real.exp_pos _) Finset.univ_nonempty
  have p2 : (0 : ℝ) < ∑ t, Real.exp (s t - M) := Finset.sum_pos (fun t _ => Real.exp_pos _) Finset.univ_nonempty
  rw [div_coe_pos _ p1, one_mul, sum_mul_coe _ _ (inv_nonneg.mpr p1.le)]
  refine Finset.sum_congr rfl fun t _ => ?_
  rw [div_coe_pos _ p2, mul_comm _ (V t), mul_assoc, ← EReal.coe_mul, ← EReal.coe_mul]
  have : (∑ t, Real.exp (s t - M)) = (∑ t, Real.exp (s t)) * Real.exp (-M) := by
    rw [Finset.sum_mul]
    exact Finset.sum_congr rfl fun t _ => by rw [sub_eq_add_neg, Real.exp_add]
  congr 2
  rw [this, sub_eq_add_neg, Real.exp_add]
  have := Real.exp_ne_zero (-M)
  have := p1.ne'
  field_simp

end Cert.Value

end
-- ==== Proof.Value.Ref.lean ====
/- The reference's result at one element, over the extended reals, stage by stage. -/
module

public import proofs.«01_k».proof.Proof.Gen.ReferenceIdeal
public import proofs.«01_k».proof.Proof.Gen.ReferenceIdeal.Run
public import proofs.«01_k».proof.Proof.Value.Softmax
public import Idealize.ShloMosaic.Lib.Pointwise

@[expose] public section

set_option maxRecDepth 16384

noncomputable section

namespace Cert.ReferenceIdeal.Mla

open Idealize.ShloMosaic Cert.ReferenceIdeal Cert.ReferenceIdeal.Gen

/-- Column `j` of head `h`. -/
def col (h : Fin 16) (j : Fin 128) : Fin 2048 := ⟨h.val * 128 + j.val, by omega⟩
/-- Rotary column `d` of head `h`. -/
def rcol (h : Fin 16) (d : Fin 32) : Fin 512 := ⟨h.val * 32 + d.val, by omega⟩

abbrev V3 (a b c : ℕ) := FVec Ideal (⟨3, ![a, b, c]⟩ : Shape) .f32
abbrev V2 (a b : ℕ) := FVec Ideal (⟨2, ![a, b]⟩ : Shape) .f32

variable (x : V3 2 512 2048) (wd : V2 2048 256) (wk wv : V2 256 2048) (wq : V2 2048 2048) (wr : V2 2048 512) (we : V2 2048 32) (wo : V2 2048 2048)

/-! ## The stages -/

def tLat : FVec Ideal S2x512x256 .f32 := Host.dotGeneral dot_S2x512x2048_S2048x256_S2x512x256_2_0_01_1_n_n none x wd
def tUp (w : V2 256 2048) : FVec Ideal S2x512x16x128 .f32 :=
  shapeCast _ (Host.dotGeneral dot_S2x512x256_S256x2048_S2x512x2048_2_0_01_1_n_n none (tLat x wd) w) shapeCasts_S2x512x2048_S2x512x16x128
def tQ : FVec Ideal S2x512x16x128 .f32 :=
  shapeCast _ (Host.dotGeneral dot_S2x512x2048_S2048x2048_S2x512x2048_2_0_01_1_n_n none x wq) shapeCasts_S2x512x2048_S2x512x16x128
def tR : FVec Ideal S2x512x16x32 .f32 :=
  shapeCast _ (Host.dotGeneral dot_S2x512x2048_S2048x512_S2x512x512_2_0_01_1_n_n none x wr) shapeCasts_S2x512x512_S2x512x16x32
def tE : FVec Ideal S2x512x16x32 .f32 :=
  broadcastInDim S2x512x16x32 ![0, 1, 2, 3] bcast_S2x512x1x32_S2x512x16x32_0_1_2_3
    (shapeCast S2x512x1x32 (Host.dotGeneral dot_S2x512x2048_S2048x32_S2x512x32_2_0_01_1_n_n none x we) shapeCasts_S2x512x32_S2x512x1x32)
def tS : FVec Ideal S2x16x512x512 .f32 :=
  mulf (addf (Host.dotGeneral dot_S2x512x16x128_S2x512x16x128_S2x16x512x512_3_3_1_1_02_02 none (tQ x wq) (tUp x wd wk))
      (Host.dotGeneral dot_S2x512x16x32_S2x512x16x32_S2x16x512x512_3_3_1_1_02_02 none (tR x wr) (tE x we)))
    (broadcastInDim S2x16x512x512 ![] bcast_S_S2x16x512x512 (Host.rsqrt (constant (F := Ideal) S_ .f32 0x43200000#32)))
def tMax (S : FVec Ideal S2x16x512x512 .f32) : FVec Ideal S2x16x512 .f32 :=
  Host.reduce FloatOps.maximumf S (constant (F := Ideal) S_ .f32 0xFF800000#32) reducesTo_S2x16x512x512_S2x16x512_d3 h_S_
def tExp (S : FVec Ideal S2x16x512x512 .f32) : FVec Ideal S2x16x512x512 .f32 :=
  Host.exp (subf S (broadcastInDim S2x16x512x512 ![0, 1, 2, 3] bcast_S2x16x512x1_S2x16x512x512_0_1_2_3
    (broadcastInDim S2x16x512x1 ![0, 1, 2] bcast_S2x16x512_S2x16x512x1_0_1_2 (tMax S))))
def tSum (E : FVec Ideal S2x16x512x512 .f32) : FVec Ideal S2x16x512 .f32 :=
  Host.reduceAdd E (constant (F := Ideal) S_ .f32 0x00000000#32) reducesTo_S2x16x512x512_S2x16x512_d3 h_S_
def tP (E : FVec Ideal S2x16x512x512 .f32) : FVec Ideal S2x16x512x512 .f32 :=
  Host.divf E (broadcastInDim S2x16x512x512 ![0, 1, 2, 3] bcast_S2x16x512x1_S2x16x512x512_0_1_2_3
    (broadcastInDim S2x16x512x1 ![0, 1, 2] bcast_S2x16x512_S2x16x512x1_0_1_2 (tSum E)))
def tO (V : FVec Ideal S2x512x16x128 .f32) (P : FVec Ideal S2x16x512x512 .f32) : FVec Ideal S2x512x2048 .f32 :=
  shapeCast _ (transpose S2x512x16x128 [0, 3, 1, 2] (Host.dotGeneral dot_S2x512x16x128_S2x16x512x512_S2x16x128x512_1_3_3_2_02_01 none V P)
    transposes_S2x16x128x512_S2x512x16x128_0_3_1_2) shapeCasts_S2x512x16x128_S2x512x2048
def tOut : FVec Ideal S2x512x2048 .f32 :=
  Host.dotGeneral dot_S2x512x2048_S2048x2048_S2x512x2048_2_0_01_1_n_n none (tO (tUp x wd wv) (tP (tExp (tS x wd wk wq wr we)))) wo

/-! ## Each at an element -/

def lat (b : Fin 2) (s : Fin 512) (k : Fin 256) : EReal := ∑ q : Fin 2048, x (ix3 b s q) * wd (ix2 q k)
def up (w : V2 256 2048) (b : Fin 2) (s : Fin 512) (n : Fin 2048) : EReal := ∑ k : Fin 256, lat x wd b s k * w (ix2 k n)
def proj {N : ℕ} (w : V2 2048 N) (b : Fin 2) (s : Fin 512) (n : Fin N) : EReal := ∑ q : Fin 2048, x (ix3 b s q) * w (ix2 q n)
def score (b : Fin 2) (h : Fin 16) (s t : Fin 512) : EReal :=
  ((∑ j : Fin 128, proj x wq b s (col h j) * up x wd wk b t (col h j)) + ∑ d : Fin 32, proj x wr b s (rcol h d) * proj x we b t d)
    * (((Real.sqrt 160)⁻¹ : ℝ) : EReal)

theorem tLat_at (b : Fin 2) (s : Fin 512) (k : Fin 256) : tLat x wd (ix3 b s k) = lat x wd b s k := by
  pointwise [tLat, lat]

theorem tUp_at (w : V2 256 2048) (b : Fin 2) (s : Fin 512) (h : Fin 16) (j : Fin 128) : tUp x wd w (ix4 b s h j) = up x wd w b s (col h j) := by
  unfold up
  simp only [← tLat_at]
  pointwise [tUp, col]

theorem tQ_at (b : Fin 2) (s : Fin 512) (h : Fin 16) (j : Fin 128) : tQ x wq (ix4 b s h j) = proj x wq b s (col h j) := by
  pointwise [tQ, proj, col]

theorem tR_at (b : Fin 2) (s : Fin 512) (h : Fin 16) (d : Fin 32) : tR x wr (ix4 b s h d) = proj x wr b s (rcol h d) := by
  pointwise [tR, proj, rcol]

theorem tE_at (b : Fin 2) (s : Fin 512) (h : Fin 16) (d : Fin 32) : tE x we (ix4 b s h d) = proj x we b s d := by
  pointwise [tE, proj]

theorem tS_at (b : Fin 2) (h : Fin 16) (s t : Fin 512) : tS x wd wk wq wr we (ix4 b h s t) = score x wd wk wq wr we b h s t := by
  unfold score
  simp only [← tQ_at, ← tR_at, ← tUp_at, ← tE_at x we b _ h]
  pointwise [tS]
  rw [Cert.Value.rsqrt_160]

theorem tMax_at (S : FVec Ideal S2x16x512x512 .f32) (b : Fin 2) (h : Fin 16) (s : Fin 512) :
    tMax S (ix3 b h s) = Finset.univ.fold max (Ideal.ofBits .f32 0xFF800000#32) fun t : Fin 512 => S (ix4 b h s t) := by
  pointwise [tMax]

theorem tExp_at (S : FVec Ideal S2x16x512x512 .f32) (b : Fin 2) (h : Fin 16) (s t : Fin 512) :
    tExp S (ix4 b h s t) = Ideal.exp (S (ix4 b h s t) - tMax S (ix3 b h s)) := by
  pointwise [tExp]

theorem tP_at (E : FVec Ideal S2x16x512x512 .f32) (b : Fin 2) (h : Fin 16) (s t : Fin 512) :
    tP E (ix4 b h s t) = Ideal.div (E (ix4 b h s t)) (∑ t' : Fin 512, E (ix4 b h s t')) := by
  pointwise [tP, tSum]

theorem tO_at (V : FVec Ideal S2x512x16x128 .f32) (P : FVec Ideal S2x16x512x512 .f32) (b : Fin 2) (s : Fin 512) (h : Fin 16) (j : Fin 128) :
    tO V P (ix3 b s (col h j)) = ∑ t : Fin 512, V (ix4 b t h j) * P (ix4 b h s t) := by
  have e1 : (⟨(col h j).val / 128, by have := (col h j).isLt; omega⟩ : Fin 16) = h := Fin.ext (by simp only [col]; omega)
  have e2 : (⟨(col h j).val % 128, by omega⟩ : Fin 128) = j := Fin.ext (by simp only [col]; omega)
  pointwise [tO]
  simp only [e1, e2]

theorem tOut_at (b : Fin 2) (s : Fin 512) (n : Fin 2048) :
    tOut x wd wk wv wq wr we wo (ix3 b s n)
      = ∑ c : Fin 2048, tO (tUp x wd wv) (tP (tExp (tS x wd wk wq wr we))) (ix3 b s c) * wo (ix2 c n) := by
  pointwise [tOut]

theorem res_eq (m : (ℓ : Loc nD τ sig) → Buf (Elt Ideal) ℓ) (c : Dev nD) :
    Cert.ReferenceIdeal.Value.res_main_v30 m c
      = tOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := rfl

end Cert.ReferenceIdeal.Mla

end
-- ==== Proof.Value.Join.lean ====
/- A device's output is the reference's result, when its blocks and its partner's are the two halves of the reference's. -/
module

public import proofs.«01_k».proof.Proof.Value.Kernel
public import proofs.«01_k».proof.Proof.Value.Ref
public import proofs.«01_k».proof.Proof.Value.Softmax

@[expose] public section

set_option maxRecDepth 16384

noncomputable section

namespace Cert.Value

open Idealize.ShloMosaic Cert.KernelIdeal.Mla Cert.ReferenceIdeal.Mla

theorem colK_eq (h : Fin 16) (j : Fin 128) : colK h j = col h j := Fin.ext (by simp only [colK, col]; omega)
theorem rcolK_eq (h : Fin 16) (d : Fin 32) : rcolK h d = rcol h d := Fin.ext (by simp only [rcolK, rcol]; omega)

/-- Latent column `k` of half `i`. -/
def half (i : Fin 2) (k : Fin 128) : Fin 256 := ⟨128 * i.val + k.val, by omega⟩

/-- A sum over the latent columns is the sum of its two halves, in either order. -/
theorem sum_halves {M : Type*} [AddCommMonoid M] {i i' : Fin 2} (hi : i ≠ i') (f : Fin 256 → M) :
    (∑ k : Fin 128, f (half i k)) + ∑ k : Fin 128, f (half i' k) = ∑ k : Fin 256, f k := by
  have e0 : ∀ k : Fin 128, half 0 k = ⟨k.val, by omega⟩ := fun k => Fin.ext (by simp [half])
  have e1 : ∀ k : Fin 128, half 1 k = ⟨128 + k.val, by omega⟩ := fun k => Fin.ext (by simp [half])
  rw [Fin.sum_univ_two_halves 128 128 rfl f]
  rcases Fin.exists_fin_two.mp ⟨i, rfl⟩ with h | h <;> rcases Fin.exists_fin_two.mp ⟨i', rfl⟩ with h' | h' <;> subst h <;> subst h'
  · exact absurd rfl hi
  · simp only [e0, e1]
  · simp only [e0, e1]
    exact add_comm _ _
  · exact absurd rfl hi

/-- Columns `128 * i` on of an array of 256. -/
def colsOf (i : Fin 2) (w : V2 2048 256) : V2 2048 128 := fun j => w (ix2 (j 0) (half i (j 1)))
/-- Rows `128 * i` on of an array of 256. -/
def rowsOf (i : Fin 2) (w : V2 256 2048) : V2 128 2048 := fun j => w (ix2 (half i (j 0)) (j 1))

variable (x : V3 2 512 2048) (wd : V2 2048 256) (wk wv : V2 256 2048) (wq : V2 2048 2048) (wr : V2 2048 512) (we : V2 2048 32) (wo : V2 2048 2048)

theorem CS_lat (i : Fin 2) (b : Fin 2) (s : Fin 512) (k : Fin 128) : CS (F := Ideal) x (colsOf i wd) (ix2 (row b s) k) = lat x wd b s (half i k) := CS_at ..

theorem WS_key (i : Fin 2) (k : Fin 128) (n : Fin 2048) : WS (F := Ideal) (rowsOf i wk) (rowsOf i wv) (ix3 0 k n) = wk (ix2 (half i k) n) := by
  rw [WS_at, if_pos rfl]
  rfl

theorem WS_val (i : Fin 2) (k : Fin 128) (n : Fin 2048) : WS (F := Ideal) (rowsOf i wk) (rowsOf i wv) (ix3 1 k n) = wv (ix2 (half i k) n) := by
  rw [WS_at, if_neg (by decide)]
  rfl

section

variable {i i' : Fin 2} (hi : i ≠ i')
include hi

theorem key_up (b : Fin 2) (s : Fin 512) (n : Fin 2048) :
    KV (F := Ideal) (CS x (colsOf i wd)) (CS x (colsOf i' wd)) (WS (rowsOf i wk) (rowsOf i wv)) (WS (rowsOf i' wk) (rowsOf i' wv)) 0 (ix2 (row b s) n)
      = up x wd wk b s n := by
  rw [KV_at]
  simp only [CS_lat, WS_key]
  exact sum_halves hi fun k => lat x wd b s k * wk (ix2 k n)

theorem val_up (b : Fin 2) (s : Fin 512) (n : Fin 2048) :
    KV (F := Ideal) (CS x (colsOf i wd)) (CS x (colsOf i' wd)) (WS (rowsOf i wk) (rowsOf i wv)) (WS (rowsOf i' wk) (rowsOf i' wv)) 1 (ix2 (row b s) n)
      = up x wd wv b s n := by
  rw [KV_at]
  simp only [CS_lat, WS_val]
  exact sum_halves hi fun k => lat x wd b s k * wv (ix2 k n)

theorem sc_score (b : Fin 2) (h : Fin 16) (s t : Fin 512) :
    scK (QQ x wq) (KV (CS x (colsOf i wd)) (CS x (colsOf i' wd)) (WS (rowsOf i wk) (rowsOf i wv)) (WS (rowsOf i' wk) (rowsOf i' wv)) 0)
        (QR x wr) (KR x we) b h s t
      = score x wd wk wq wr we b h s t := by
  unfold scK score
  simp only [key_up x wd wk wv hi, QQ_at, QR_at, KR_at, colK_eq, rcolK_eq]
  rfl

end

section

variable (hx : ∀ j, IsReal (x j)) (hwd : ∀ j, IsReal (wd j)) (hwk : ∀ j, IsReal (wk j)) (hwq : ∀ j, IsReal (wq j)) (hwr : ∀ j, IsReal (wr j))
  (hwe : ∀ j, IsReal (we j))
include hx hwd hwk hwq hwr hwe

/-- With finite inputs every score is finite. -/
theorem score_real (b : Fin 2) (h : Fin 16) (s t : Fin 512) : IsReal (score x wd wk wq wr we b h s t) :=
  IsReal.mul (IsReal.add
    (IsReal.sum fun _ _ => IsReal.mul (IsReal.sum fun _ _ => IsReal.mul (hx _) (hwq _))
      (IsReal.sum fun _ _ => IsReal.mul (IsReal.sum fun _ _ => IsReal.mul (hx _) (hwd _)) (hwk _)))
    (IsReal.sum fun _ _ => IsReal.mul (IsReal.sum fun _ _ => IsReal.mul (hx _) (hwr _)) (IsReal.sum fun _ _ => IsReal.mul (hx _) (hwe _))))
    ⟨_, rfl⟩

variable {i i' : Fin 2} (hi : i ≠ i')
include hi

/-- One head's output: the quotient taken last, against the quotient taken first after the row's maximum is subtracted. -/
theorem head_eq (b : Fin 2) (s : Fin 512) (h : Fin 16) (j : Fin 128) :
    obB (F := Ideal) (QQ x wq) (KV (CS x (colsOf i wd)) (CS x (colsOf i' wd)) (WS (rowsOf i wk) (rowsOf i wv)) (WS (rowsOf i' wk) (rowsOf i' wv)) 0)
        (KV (CS x (colsOf i wd)) (CS x (colsOf i' wd)) (WS (rowsOf i wk) (rowsOf i wv)) (WS (rowsOf i' wk) (rowsOf i' wv)) 1)
        (QR x wr) (KR x we) b h (ix2 s j)
      = tO (tUp x wd wv) (tP (tExp (tS x wd wk wq wr we))) (ix3 b s (col h j)) := by
  rw [obB_at, tO_at]
  simp only [sc_score x wd wk wv wq wr we hi, val_up x wd wk wv hi, colK_eq, tP_at, tExp_at, tMax_at, tS_at, tUp_at]
  rw [attend (n := 511) (fun t => score x wd wk wq wr we b h s t) (fun t => up x wd wv b t (col h j))
    (fun t => score_real x wd wk wq wr we hx hwd hwk hwq hwr hwe b h s t), ofBits_neg_inf]

theorem out_at (b : Fin 2) (s : Fin 512) (n : Fin 2048) :
    OUT (F := Ideal) x wq wr we wo (CS x (colsOf i wd)) (CS x (colsOf i' wd)) (WS (rowsOf i wk) (rowsOf i wv)) (WS (rowsOf i' wk) (rowsOf i' wv)) (ix3 b s n)
      = Cert.ReferenceIdeal.Mla.tOut x wd wk wv wq wr we wo (ix3 b s n) := by
  rw [OUT_at, Cert.ReferenceIdeal.Mla.tOut_at, Fin.sum_univ_tiles 16 128 rfl]
  refine Finset.sum_congr rfl fun h _ => Finset.sum_congr rfl fun k _ => ?_
  rw [head_eq x wd wk wv wq wr we hx hwd hwk hwq hwr hwe hi, colK_eq]
  rfl

/-- The device's whole output. -/
theorem out_eq :
    OUT (F := Ideal) x wq wr we wo (CS x (colsOf i wd)) (CS x (colsOf i' wd)) (WS (rowsOf i wk) (rowsOf i wv)) (WS (rowsOf i' wk) (rowsOf i' wv))
      = Cert.ReferenceIdeal.Mla.tOut x wd wk wv wq wr we wo := by
  funext j
  obtain ⟨b, s, n, rfl⟩ : ∃ (b : Fin 2) (s : Fin 512) (n : Fin 2048), j = ix3 b s n := ⟨j 0, j 1, j 2, eq_ix3 j⟩
  exact out_at x wd wk wv wq wr we wo hx hwd hwk hwq hwr hwe hi b s n

end

end Cert.Value

end
-- ==== Proof.Value.Layout.lean ====
/- What the precondition says of the arrays, and which half of a split array each device holds. -/
module

public import proofs.«01_k».proof.Pre_finite_KernelIdeal
public import proofs.«01_k».proof.Proof.BodyI.Protocol
public import proofs.«01_k».proof.Proof.Value.Join
public import Idealize.ShloMosaic.Lib.Layout

@[expose] public section

set_option maxRecDepth 16384

noncomputable section

namespace Cert.Value

open Idealize.ShloMosaic Cert.ReferenceIdeal.Mla

/-! ## Finite elements -/

/-- An array whose every magnitude compares below infinity has finite elements. -/
theorem real_of_olt {s : Shape} (a : FVec Ideal s .f32) (hb : (⟨0, ![]⟩ : Shape).BroadcastsInDim s (![] : Fin 0 → Fin s.rank))
    (e : cmpf .olt (Host.absf a) (broadcastInDim s ![] hb (constant (⟨0, ![]⟩ : Shape) .f32 0x7F800000#32)) = fun _ => 1#1) (j : s.Idx) :
    IsReal (a j) := by
  have h : Ideal.cmp .olt (max (a j) (-(a j))) (Ideal.ofBits .f32 0x7F800000#32) = 1#1 := congrFun e j
  rw [ofBits_pos_inf] at h
  refine IsReal.of_abs_lt ?_
  by_contra hn
  simp [Ideal.cmp, hn] at h

/-! ## Halves -/

/-- Which half device `c` holds. -/
def part (c : Fin 8) : Fin 2 := ⟨c.val / 4, by omega⟩

theorem part_ne (c : Fin 8) : part c ≠ part (Cert.KernelIdeal.Mla.ptn c) := by revert c; decide

/-- A device that holds half `i`. -/
def holder (i : Fin 2) : Fin 8 := ⟨4 * i.val, by omega⟩

theorem part_holder (i : Fin 2) : part (holder i) = i := by revert i; decide

theorem lin_part (c : Fin 8) : Layout.meshLin [2, 2, 2] c.val [0] = (part c).val := by revert c; decide

theorem cols_block (c : Fin 8) (w : V2 2048 256) :
    (Layout.blockN ⟨2, ![2048, 128]⟩ ⟨2, ![2048, 256]⟩ (Layout.meshBlock [2, 2, 2] ![[], [0]] c) w : V2 2048 128) = colsOf (part c) w := by
  funext j
  refine congrArg w (funext fun a => Fin.ext ?_)
  rw [Layout.TilesN.idx_val]
  fin_cases a
  · show 0 * 2048 + (j 0).val = (j 0).val
    omega
  · show Layout.meshLin [2, 2, 2] c.val [0] * 128 + (j 1).val = 128 * (part c).val + (j 1).val
    rw [lin_part, Nat.mul_comm]

theorem rows_block (c : Fin 8) (w : V2 256 2048) :
    (Layout.blockN ⟨2, ![128, 2048]⟩ ⟨2, ![256, 2048]⟩ (Layout.meshBlock [2, 2, 2] ![[0], []] c) w : V2 128 2048) = rowsOf (part c) w := by
  funext j
  refine congrArg w (funext fun a => Fin.ext ?_)
  rw [Layout.TilesN.idx_val]
  fin_cases a
  · show Layout.meshLin [2, 2, 2] c.val [0] * 128 + (j 0).val = 128 * (part c).val + (j 0).val
    rw [lin_part, Nat.mul_comm]
  · show 0 * 2048 + (j 1).val = (j 1).val
    omega

/-- Every latent column is in one of the halves. -/
theorem exists_half (k : Fin 256) : ∃ (i : Fin 2) (l : Fin 128), k = half i l :=
  ⟨⟨k.val / 128, by omega⟩, ⟨k.val % 128, by omega⟩, Fin.ext (by simp only [half]; omega)⟩

theorem real_of_cols (w : V2 2048 256) (h : ∀ i j, IsReal (colsOf i w j)) (j : (⟨2, ![2048, 256]⟩ : Shape).Idx) : IsReal (w j) := by
  obtain ⟨q, k, rfl⟩ : ∃ (q : Fin 2048) (k : Fin 256), j = ix2 q k := ⟨j 0, j 1, eq_ix2 j⟩
  obtain ⟨i, l, rfl⟩ := exists_half k
  exact h i (ix2 q l)

theorem real_of_rows (w : V2 256 2048) (h : ∀ i j, IsReal (rowsOf i w j)) (j : (⟨2, ![256, 2048]⟩ : Shape).Idx) : IsReal (w j) := by
  obtain ⟨k, n, rfl⟩ : ∃ (k : Fin 256) (n : Fin 2048), j = ix2 k n := ⟨j 0, j 1, eq_ix2 j⟩
  obtain ⟨i, l, rfl⟩ := exists_half k
  exact h i (ix2 l n)

end Cert.Value

end
-- ==== Proof.Claim.Algebraic.lean ====
/- The value claim: with finite inputs, every device's output is the reference's result. -/
module

public import proofs.«01_k».proof.Defs
public import proofs.«01_k».proof.Proof.BodyI.Ends
public import proofs.«01_k».proof.Proof.Value.Layout
public import proofs.«01_k».proof.Proof.Gen.ReferenceIdeal
public import proofs.«01_k».proof.Proof.Gen.ReferenceIdeal.Run

@[expose] public section

set_option maxRecDepth 16384

noncomputable section

namespace Cert.Proof

open Idealize.ShloMosaic Idealize.SL.Sem Cert.Value

/-- The broadcasts the precondition takes. -/
theorem pre_facts : Cert.Pre_finite_KernelIdeal.Facts :=
  ⟨by decide, by decide, by decide, by decide, by decide, by decide⟩

theorem pre_facts_ri : Cert.Pre_finite_ReferenceIdeal.Facts :=
  ⟨by decide, by decide, by decide, by decide, by decide, by decide⟩

attribute [local instance] pre_facts

open Cert.KernelIdeal.Mla in
theorem algebraic : Cert.algebraic_KernelIdeal_ReferenceIdeal_pre_finite_KernelIdeal := by
  intro m g m' g' hp hm
  refine ⟨_, ?_, (θ_run Cert.ReferenceIdeal.defs _ _).mono (fun _ h => h 0) (Cert.ReferenceIdeal.Value.run (F := Ideal) m' g')⟩
  refine (θ_run Cert.KernelIdeal.defs _ _).mono (fun _ h c => ⟨(h.1 c).1.trans ?_, (h.1 c).2⟩) (ends (F := Ideal) m g)
  rw [Cert.ReferenceIdeal.Mla.res_eq]
  have hx := real_of_olt _ _ (hp 0).1
  rw [(hm 0).1] at hx
  have hwd := real_of_cols _ fun i j => by
    have h := real_of_olt _ _ (hp (holder i)).2.1 j
    rw [(hm (holder i)).2.1] at h
    rw [← part_holder i, ← cols_block]
    exact h
  have hwk := real_of_rows _ fun i j => by
    have h := real_of_olt _ _ (hp (holder i)).2.2.1 j
    rw [(hm (holder i)).2.2.1] at h
    rw [← part_holder i, ← rows_block]
    exact h
  have hwq := real_of_olt _ _ (hp 0).2.2.2.1
  rw [(hm 0).2.2.2.2.1] at hwq
  have hwr := real_of_olt _ _ (hp 0).2.2.2.2.1
  rw [(hm 0).2.2.2.2.2.1] at hwr
  have hwe := real_of_olt _ _ (hp 0).2.2.2.2.2
  rw [(hm 0).2.2.2.2.2.2.1] at hwe
  rw [← out_eq _ _ _ _ _ _ _ _ hx hwd hwk hwq hwr hwe (part_ne c)]
  unfold outAt csAt wsAt
  simp only [inX_eq, inWD_eq, inWK_eq, inWV_eq, inWR_eq, inWE_eq]
  obtain ⟨a0, a1, a2, a3, a4, a5, a6, a7⟩ := hm c
  obtain ⟨b0, b1, b2, b3, -, -, -, -⟩ := hm (ptn c)
  have r4 : aWQ.view.read (Elt Ideal) (memWQ m g c) = m ((c.tc : Thread Cert.KernelIdeal.nD Cert.KernelIdeal.τ).loc Cert.KernelIdeal.main_arg4) := rfl
  have r7 : aWO.view.read (Elt Ideal) (memWO m g c) = m ((c.tc : Thread Cert.KernelIdeal.nD Cert.KernelIdeal.τ).loc Cert.KernelIdeal.main_arg7) := rfl
  rw [r4, r7, a0, a1, a2, a3, a4, a5, a6, a7, b0, b1, b2, b3, cols_block, cols_block, rows_block, rows_block, rows_block, rows_block]

end Cert.Proof

end
-- ==== Proof.lean ====
/- The certificate's claims, put together. -/
module

public import proofs.«01_k».proof.Defs
public import proofs.«01_k».proof.Proof.Claim.Frames
public import proofs.«01_k».proof.Proof.Claim.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, pre_facts, pre_facts_ri, frame_p, frame_pi,
    fun m ρ _ => frame_pi m ρ trivial, frame_ri, fun m ρ _ => frame_ri m ρ trivial,
    IdealRules.named_const.statement Cert.KernelIdeal.κ "scale" .f32 0x3DA1E89B#32 (((Real.sqrt 160)⁻¹ : ℝ) : EReal) rfl, algebraic⟩

end Cert.Proof

end
